-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary [hPre_binary : Cert.Pre_binary.Facts] (m : (ℓ : Loc Cert.KernelIdeal.nD Cert.KernelIdeal.τ Cert.KernelIdeal.sig) → Buf (Elt Ideal) ℓ) : Prop :=
  ∀ c : Dev Cert.KernelIdeal.nD,
    (Cert.Pre_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary [hPre_binary : Cert.Pre_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_binary [hKernelIdeal : Cert.KernelIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_binary [hReferenceIdeal : Cert.ReferenceIdeal.Facts] [hPre_binary : Cert.Pre_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_binary [hKernelIdeal : Cert.KernelIdeal.Facts] [hReferenceIdeal : Cert.ReferenceIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_binary : Cert.Pre_binary.Facts),
    quiescent_Kernel (hKernel := hKernel)
    ∧ quiescent_KernelIdeal (hKernelIdeal := hKernelIdeal)
    ∧ quiescent_KernelIdeal_pre_binary (hKernelIdeal := hKernelIdeal) (hPre_binary := hPre_binary)
    ∧ quiescent_ReferenceIdeal (hReferenceIdeal := hReferenceIdeal)
    ∧ quiescent_ReferenceIdeal_pre_binary (hReferenceIdeal := hReferenceIdeal) (hPre_binary := hPre_binary)
    ∧ preserves_Kernel_KernelIdeal
    ∧ algebraic_KernelIdeal_ReferenceIdeal_pre_binary (hKernelIdeal := hKernelIdeal) (hReferenceIdeal := hReferenceIdeal) (hPre_binary := hPre_binary)
-- ==== Pre_binary.lean ====
abbrev S10000x128 : Shape := ⟨2, ![10000, 128]⟩
abbrev S10000x4096 : Shape := ⟨2, ![10000, 4096]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S10000x4096 : S_.BroadcastsInDim S10000x4096 (![] : Fin 0 → Fin S10000x4096.rank)

variable [Facts]

def fn {F : FTy → Type} [FloatOps F] (main_arg0 : FVec F S10000x128 .f32) (main_arg1 : FVec F S10000x4096 .f32) (main_arg2 : FVec F S128x128 .f32) (main_arg3 : FVec F S128 .f32) (main_arg4 : FVec F S128x256 .f32) (main_arg5 : FVec F S256 .f32) (main_arg6 : FVec F S256x128 .f32) (main_arg7 : FVec F S128 .f32) (main_arg8 : FVec F S128x256 .f32) (main_arg9 : FVec F S256 .f32) (main_arg10 : FVec F S256x128 .f32) (main_arg11 : FVec F S128 .f32) (main_arg12 : FVec F S128x1 .f32) (main_arg13 : FVec F S1 .f32) : IVec S10000x4096 1 :=
  let main_cst : FVec F S_ .f32 := constant S_ .f32 0x00000000#32
  let main_v0 : FVec F S10000x4096 .f32 := broadcastInDim S10000x4096 ![] bcast_S_S10000x4096 main_cst
  let main_v1 : IVec S10000x4096 1 := cmpf .oeq main_arg1 main_v0
  let main_cst_0 : FVec F S_ .f32 := constant S_ .f32 0x3F800000#32
  let main_v2 : FVec F S10000x4096 .f32 := broadcastInDim S10000x4096 ![] bcast_S_S10000x4096 main_cst_0
  let main_v3 : IVec S10000x4096 1 := cmpf .oeq main_arg1 main_v2
  let main_v4 : IVec S10000x4096 1 := ori main_v1 main_v3
  main_v4
-- ==== Kernel.lean ====
abbrev S10000x128 : Shape := ⟨2, ![10000, 128]⟩
abbrev S10000x4096 : Shape := ⟨2, ![10000, 4096]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S1x256 : Shape := ⟨2, ![1, 256]⟩
abbrev S1x1 : Shape := ⟨2, ![1, 1]⟩
abbrev S4096x128 : Shape := ⟨2, ![4096, 128]⟩
abbrev S1000x128 : Shape := ⟨2, ![1000, 128]⟩
abbrev S1000x4096 : Shape := ⟨2, ![1000, 4096]⟩
abbrev S128x4096 : Shape := ⟨2, ![128, 4096]⟩
abbrev S2000x128 : Shape := ⟨2, ![2000, 128]⟩
abbrev S2000x4096 : Shape := ⟨2, ![2000, 4096]⟩
abbrev S2000x256 : Shape := ⟨2, ![2000, 256]⟩

abbrev nBuf : Space → Nat
  | .hbm => 27
  | .vmem => 38
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x128, .f32⟩
  | .hbm, ⟨15, _⟩ => ⟨S1x256, .f32⟩
  | .hbm, ⟨16, _⟩ => ⟨S1x128, .f32⟩
  | .hbm, ⟨17, _⟩ => ⟨S1x256, .f32⟩
  | .hbm, ⟨18, _⟩ => ⟨S1x128, .f32⟩
  | .hbm, ⟨19, _⟩ => ⟨S1x1, .f32⟩
  | .hbm, ⟨20, _⟩ => ⟨S10000x128, .f32⟩
  | .hbm, ⟨21, _⟩ => ⟨S10000x128, .i32⟩
  | .hbm, ⟨22, _⟩ => ⟨S4096x128, .bf16⟩
  | .hbm, ⟨23, _⟩ => ⟨S10000x128, .f32⟩
  | .hbm, ⟨24, _⟩ => ⟨S4096x128, .bf16⟩
  | .hbm, ⟨25, _⟩ => ⟨S1x1, .f32⟩
  | .hbm, ⟨26, _⟩ => ⟨S1, .f32⟩
  | .local _ .vmem, ⟨0, _⟩ => ⟨S1000x128, .f32⟩
  | .local _ .vmem, ⟨1, _⟩ => ⟨S1000x128, .f32⟩
  | .local _ .vmem, ⟨2, _⟩ => ⟨S1000x4096, .f32⟩
  | .local _ .vmem, ⟨3, _⟩ => ⟨S1000x4096, .f32⟩
  | .local _ .vmem, ⟨4, _⟩ => ⟨S128x128, .f32⟩
  | .local _ .vmem, ⟨5, _⟩ => ⟨S1x128, .f32⟩
  | .local _ .vmem, ⟨6, _⟩ => ⟨S1000x128, .f32⟩
  | .local _ .vmem, ⟨7, _⟩ => ⟨S1000x128, .f32⟩
  | .local _ .vmem, ⟨8, _⟩ => ⟨S1000x128, .i32⟩
  | .local _ .vmem, ⟨9, _⟩ => ⟨S1000x128, .i32⟩
  | .local _ .vmem, ⟨10, _⟩ => ⟨S4096x128, .bf16⟩
  | .local _ .vmem, ⟨11, _⟩ => ⟨S128x4096, .f32⟩
  | .local _ .vmem, ⟨12, _⟩ => ⟨S2000x128, .i32⟩
  | .local _ .vmem, ⟨13, _⟩ => ⟨S2000x128, .i32⟩
  | .local _ .vmem, ⟨14, _⟩ => ⟨S2000x128, .f32⟩
  | .local _ .vmem, ⟨15, _⟩ => ⟨S2000x128, .f32⟩
  | .local _ .vmem, ⟨16, _⟩ => ⟨S4096x128, .bf16⟩
  | .local _ .vmem, ⟨17, _⟩ => ⟨S128x256, .f32⟩
  | .local _ .vmem, ⟨18, _⟩ => ⟨S1x256, .f32⟩
  | .local _ .vmem, ⟨19, _⟩ => ⟨S256x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S4096x128, .bf16⟩
  | .local _ .vmem, ⟨24, _⟩ => ⟨S128x4096, .f32⟩
  | .local _ .vmem, ⟨25, _⟩ => ⟨S2000x128, .i32⟩
  | .local _ .vmem, ⟨26, _⟩ => ⟨S2000x128, .i32⟩
  | .local _ .vmem, ⟨27, _⟩ => ⟨S2000x128, .f32⟩
  | .local _ .vmem, ⟨28, _⟩ => ⟨S2000x128, .f32⟩
  | .local _ .vmem, ⟨29, _⟩ => ⟨S4096x128, .bf16⟩
  | .local _ .vmem, ⟨30, _⟩ => ⟨S128x256, .f32⟩
  | .local _ .vmem, ⟨31, _⟩ => ⟨S1x256, .f32⟩
  | .local _ .vmem, ⟨32, _⟩ => ⟨S256x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S1x1, .f32⟩
  | .local _ .vmem, ⟨37, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v154 : BitVec 1 := Scalar.cmpi .eq arg0 c9_i32
  let v155 : BitVec 32 := Scalar.extui v154
  let c0_i32_51 : BitVec 32 := 0#32
  let v156 : BitVec 1 := Scalar.cmpi .ne v155 c0_i32_51
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32_57 : BitVec 32 := 4#32
  let v194 : BitVec 1 := Scalar.cmpi .eq arg0 c4_i32_57
  let v195 : BitVec 32 := Scalar.extui v194
  let c0_i32_58 : BitVec 32 := 0#32
  let v196 : BitVec 1 := Scalar.cmpi .ne v195 c0_i32_58
  v196

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S4096x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![5], ![false]⟩

def k2_cond2 (i : grid2.Coords) : BitVec 1 :=
  let arg0 : BitVec 32 := BitVec.ofNat 32 (i 0).val
  let c4_i32_55 : BitVec 32 := 4#32
  let v193 : BitVec 1 := Scalar.cmpi .eq arg0 c4_i32_55
  let v194 : BitVec 32 := Scalar.extui v193
  let c0_i32_56 : BitVec 32 := 0#32
  let v195 : BitVec 1 := Scalar.cmpi .ne v194 c0_i32_56
  v195

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000x128 : Shape := ⟨2, ![10000, 128]⟩
abbrev S10000x4096 : Shape := ⟨2, ![10000, 4096]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S4096x10000 : Shape := ⟨2, ![4096, 10000]⟩
abbrev S4096x128 : Shape := ⟨2, ![4096, 128]⟩
abbrev S_ : Shape := ⟨0, ![]⟩
abbrev S10000x256 : Shape := ⟨2, ![10000, 256]⟩
abbrev S1x256 : Shape := ⟨2, ![1, 256]⟩

abbrev nBuf : Space → Nat
  | .hbm => 69
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S4096x10000, .f32⟩
  | .hbm, ⟨19, _⟩ => ⟨S4096x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S_, .f32⟩
  | .hbm, ⟨30, _⟩ => ⟨S10000x256, .f32⟩
  | .hbm, ⟨31, _⟩ => ⟨S10000x256, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | .hbm, ⟨36, _⟩ => ⟨S4096x10000, .f32⟩
  | .hbm, ⟨37, _⟩ => ⟨S4096x128, .f32⟩
  | .hbm, ⟨38, _⟩ => ⟨S10000x128, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S10000x256, .f32⟩
  | .hbm, ⟨49, _⟩ => ⟨S10000x256, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S_, .f32⟩
  | .hbm, ⟨64, _⟩ => ⟨S1, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_cst : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.BitsLaunch.lean ====
module

public import proofs.«01_k».proof.Proof.BitsRegion0
public import proofs.«01_k».proof.Proof.BitsRegion1
public import proofs.«01_k».proof.Proof.BitsRegion2
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers when the first region is entered: the host reshapes have run. -/
def W0 (c : Dev nD) : Valuation τ sig (Elt F) := StableHlo.after hostOps0 fun b => m (c, b)
/-- After the first region. -/
def W1 (c : Dev nD) : Valuation τ sig (Elt F) := Pipeline.afterRegion (dat0 (W0 m) c) (W0 m c)
/-- After the second region. -/
def W2 (c : Dev nD) : Valuation τ sig (Elt F) := Pipeline.afterRegion (dat1 (W1 m) c) (W1 m c)
/-- After the third region. -/
def W3 (c : Dev nD) : Valuation τ sig (Elt F) := Pipeline.afterRegion (dat2 (W2 m) c) (W2 m c)
/-- At the end: the host reshape of the result has run. -/
def W4 (c : Dev nD) : Valuation τ sig (Elt F) := StableHlo.after hostOps3 (W3 m c)

/-- A buffer that the host operations before the regions do not write holds what it was launched with. -/
theorem W0_of (c : Dev nD) (r : Ref sig .tc) (h : r ∉ hostOps0_W) : W0 m c (Proc.devRef .tc r) = m ((c : Thread nD τ).loc r) :=
  StableHlo.after_of_writes_sub hostOps0 _ hostOps0_writes h
/-- The first region leaves every buffer that is no output of its. -/
theorem W1_of (c : Dev nD) (r : Ref sig .tc) (h : ∀ w, Pipeline.arrRef spec0 w = r → (cfg0.win w).isOut = false) :
    W1 m c (Proc.devRef .tc r) = W0 m c (Proc.devRef .tc r) :=
  Pipeline.afterRegion_keeps (dat0 (W0 m) c) (W0 m c) winFacts0.arr_inj (A0 (W0 m) c) r h
/-- The first region leaves in each of its arrays what its points wrote back. -/
theorem W1_arr (c : Dev nD) (w : Fin cfg0.W) : W1 m c (Proc.devRef .tc (Pipeline.arrRef spec0 w)) = (dat0 (W0 m) c).arrAt w cfg0.N :=
  Pipeline.afterRegion_arr (dat0 (W0 m) c) (W0 m c) winFacts0.arr_inj w
/-- The second region leaves every buffer that is no output of its. -/
theorem W2_of (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (W1 m) c) (W1 m c) winFacts1.arr_inj (A1 (W1 m) c) r h
/-- The second region leaves in each of its arrays what its points wrote back. -/
theorem W2_arr (c : Dev nD) (w : Fin cfg1.W) : W2 m c (Proc.devRef .tc (Pipeline.arrRef spec1 w)) = (dat1 (W1 m) c).arrAt w cfg1.N :=
  Pipeline.afterRegion_arr (dat1 (W1 m) c) (W1 m c) winFacts1.arr_inj w
/-- The third region leaves every buffer that is no output of its. -/
theorem W3_of (c : Dev nD) (r : Ref sig .tc) (h : ∀ w, Pipeline.arrRef spec2 w = r → (cfg2.win w).isOut = false) :
    W3 m c (Proc.devRef .tc r) = W2 m c (Proc.devRef .tc r) :=
  Pipeline.afterRegion_keeps (dat2 (W2 m) c) (W2 m c) winFacts2.arr_inj (A2 (W2 m) c) r h
/-- The third region leaves in each of its arrays what its points wrote back. -/
theorem W3_arr (c : Dev nD) (w : Fin cfg2.W) : W3 m c (Proc.devRef .tc (Pipeline.arrRef spec2 w)) = (dat2 (W2 m) c).arrAt w cfg2.N :=
  Pipeline.afterRegion_arr (dat2 (W2 m) c) (W2 m c) winFacts2.arr_inj w
/-- The last host operation leaves the buffers that it does not write. -/
theorem W4_of (c : Dev nD) (r : Ref sig .tc) (h : r ∉ hostOps3_W) : W4 m c (Proc.devRef .tc r) = W3 m c (Proc.devRef .tc r) :=
  StableHlo.after_of_writes_sub hostOps3 _ hostOps3_writes h

/-! ## The regions as segments -/

/-- The proof data of the three pipelines. -/
def pd : (p : Fin 3) → (c : Dev nD) → Dat τ (Elt F) Unit ℕ (UR sig nD τ) ℕ (cfgs p) c
  | ⟨0, _⟩, c => dat0 (W0 m) c
  | ⟨1, _⟩, c => dat1 (W1 m) c
  | ⟨2, _⟩, c => dat2 (W2 m) c

/-- The staging waits' index is assigned at every cell of a TensorCore. -/
def lev (g : GSem nD τ sig) : Finset Unit := if g.1.2 = .tc then {()} else ∅
/-- Every level is zero. -/
abbrev lv0 : GSem nD τ sig → Unit → ℕ := fun _ _ => 0

/-- No region waits on another: the levels and the amounts owed are all zero. -/
theorem cut (p : Fin 3) : Pipeline.LevelCut (pcfgs (F := F)) adm () lev lv0 p (fun _ => 0) (fun _ => 0) where
  hι c w s := by unfold lev; rw [if_pos rfl]; exact Finset.mem_singleton_self _
  hιb _ _ _ := le_refl _
  hD _ _ _ h := absurd h (lt_irrefl _)

/-- What rides beside the buffers: the core owes nothing. -/
abbrev rest (c : Dev nD) : sProp 𝕄 := iprop((∃ Wd, owes (c : Thread nD τ) (0 : CellTallies nD τ sig Unit) Wd) ∗ emp ∗ emp)

set_option backward.isDefEq.respectTransparency.types false in
/-- Region 0, entered from the buffers at `W0` and left with them at `W1`. -/
def reg0 : RegionSeg (pcfgs (F := F)) adm (pd m) () defs₀ Variants.none lev lv0 0 :=
  RegionSeg.ofHeldIn (pcfgs (F := F)) adm (pd m) () defs₀ Variants.none lev lv0 0 (fun _ => 0) (Pipeline.ucRefs τ sig)
    (fun _ => iprop(emp)) (fun _ => iprop(emp)) launch0.toP rfl (fun c => (obligation0 (W0 m) c).loose) (fun _ _ => rfl) (fun _ => rfl)
    (fun c => (dat0 (W0 m) c).share_full fun _ => rfl) (fun c => enter0 (W0 m) c) (fun c => leave0 (W0 m) c _) (fun _ => 0) (cut 0)
    (fun _ => iprop(emp)) (W0 m) (fun c w => A0 (W0 m) c w)

set_option backward.isDefEq.respectTransparency.types false in
/-- The first region may be entered from the buffers at the contents before it. -/
theorem reg0_pre (c : Dev nD) : iprop(StableHlo.held (c.tc : Thread nD τ) (Pipeline.ucRefs τ sig) (W0 m c) ∗ rest c) ⊢ (reg0 m).pre c :=
  RegionSeg.ofHeldIn_pre (pcs := pcfgs (F := F)) (a := adm) (pdats := pd m) (ι := ()) (defs₀ := defs₀) (𝒱₀ := Variants.none) (L := lev) (lv := lv0) (p := 0) (D := fun _ => 0) (S := Pipeline.ucRefs τ sig)
    (X := fun _ => iprop(emp)) (Y := fun _ => iprop(emp)) (R := fun _ => iprop(emp)) (W := W0 m) (b := fun _ => 0) (Pipeline.arrRefs_sub_ucRefs (τ := τ) spec0 winFacts0.arr_unscoped) c
set_option backward.isDefEq.respectTransparency.types false in
/-- The first region hands back the buffers at the contents after it. -/
theorem reg0_post (c : Dev nD) : (reg0 m).post c ⊢ iprop(StableHlo.held (c.tc : Thread nD τ) (Pipeline.ucRefs τ sig) (W1 m c) ∗ rest c) :=
  RegionSeg.ofHeldIn_post (pcs := pcfgs (F := F)) (a := adm) (pdats := pd m) (ι := ()) (defs₀ := defs₀) (𝒱₀ := Variants.none) (L := lev) (lv := lv0) (p := 0) (D := fun _ => 0) (S := Pipeline.ucRefs τ sig)
    (X := fun _ => iprop(emp)) (Y := fun _ => iprop(emp)) (R := fun _ => iprop(emp)) (W := W0 m) (b := fun _ => 0) (Pipeline.arrRefs_sub_ucRefs (τ := τ) spec0 winFacts0.arr_unscoped) c

set_option backward.isDefEq.respectTransparency.types false in
/-- Region 1, entered from the buffers at `W1` and left with them at `W2`. -/
def reg1 : RegionSeg (pcfgs (F := F)) adm (pd m) () defs₀ Variants.none lev lv0 1 :=
  RegionSeg.ofHeldIn (pcfgs (F := F)) adm (pd m) () defs₀ Variants.none lev lv0 1 (fun _ => 0) (Pipeline.ucRefs τ sig)
    (fun _ => iprop(emp)) (fun _ => iprop(emp)) launch1.toP rfl (fun c => (obligation1 (W1 m) c).loose) (fun _ _ => rfl) (fun _ => rfl)
    (fun c => (dat1 (W1 m) c).share_full fun _ => rfl) (fun c => enter1 (W1 m) c) (fun c => leave1 (W1 m) c _) (fun _ => 0) (cut 1)
    (fun _ => iprop(emp)) (W1 m) (fun c w => A1 (W1 m) c w)

set_option backward.isDefEq.respectTransparency.types false in
/-- The second region may be entered from the buffers at the contents before it. -/
theorem reg1_pre (c : Dev nD) : iprop(StableHlo.held (c.tc : Thread nD τ) (Pipeline.ucRefs τ sig) (W1 m c) ∗ rest c) ⊢ (reg1 m).pre c :=
  RegionSeg.ofHeldIn_pre (pcs := pcfgs (F := F)) (a := adm) (pdats := pd m) (ι := ()) (defs₀ := defs₀) (𝒱₀ := Variants.none) (L := lev) (lv := lv0) (p := 1) (D := fun _ => 0) (S := Pipeline.ucRefs τ sig)
    (X := fun _ => iprop(emp)) (Y := fun _ => iprop(emp)) (R := fun _ => iprop(emp)) (W := W1 m) (b := fun _ => 0) (Pipeline.arrRefs_sub_ucRefs (τ := τ) spec1 winFacts1.arr_unscoped) c
set_option backward.isDefEq.respectTransparency.types false in
/-- The second region hands back the buffers at the contents after it. -/
theorem reg1_post (c : Dev nD) : (reg1 m).post c ⊢ iprop(StableHlo.held (c.tc : Thread nD τ) (Pipeline.ucRefs τ sig) (W2 m c) ∗ rest c) :=
  RegionSeg.ofHeldIn_post (pcs := pcfgs (F := F)) (a := adm) (pdats := pd m) (ι := ()) (defs₀ := defs₀) (𝒱₀ := Variants.none) (L := lev) (lv := lv0) (p := 1) (D := fun _ => 0) (S := Pipeline.ucRefs τ sig)
    (X := fun _ => iprop(emp)) (Y := fun _ => iprop(emp)) (R := fun _ => iprop(emp)) (W := W1 m) (b := fun _ => 0) (Pipeline.arrRefs_sub_ucRefs (τ := τ) spec1 winFacts1.arr_unscoped) c

set_option backward.isDefEq.respectTransparency.types false in
/-- Region 2, entered from the buffers at `W2` and left with them at `W3`. -/
def reg2 : RegionSeg (pcfgs (F := F)) adm (pd m) () defs₀ Variants.none lev lv0 2 :=
  RegionSeg.ofHeldIn (pcfgs (F := F)) adm (pd m) () defs₀ Variants.none lev lv0 2 (fun _ => 0) (Pipeline.ucRefs τ sig)
    (fun _ => iprop(emp)) (fun _ => iprop(emp)) launch2.toP rfl (fun c => (obligation2 (W2 m) c).loose) (fun _ _ => rfl) (fun _ => rfl)
    (fun c => (dat2 (W2 m) c).share_full fun _ => rfl) (fun c => enter2 (W2 m) c) (fun c => leave2 (W2 m) c _) (fun _ => 0) (cut 2)
    (fun _ => iprop(emp)) (W2 m) (fun c w => A2 (W2 m) c w)

set_option backward.isDefEq.respectTransparency.types false in
/-- The third region may be entered from the buffers at the contents before it. -/
theorem reg2_pre (c : Dev nD) : iprop(StableHlo.held (c.tc : Thread nD τ) (Pipeline.ucRefs τ sig) (W2 m c) ∗ rest c) ⊢ (reg2 m).pre c :=
  RegionSeg.ofHeldIn_pre (pcs := pcfgs (F := F)) (a := adm) (pdats := pd m) (ι := ()) (defs₀ := defs₀) (𝒱₀ := Variants.none) (L := lev) (lv := lv0) (p := 2) (D := fun _ => 0) (S := Pipeline.ucRefs τ sig)
    (X := fun _ => iprop(emp)) (Y := fun _ => iprop(emp)) (R := fun _ => iprop(emp)) (W := W2 m) (b := fun _ => 0) (Pipeline.arrRefs_sub_ucRefs (τ := τ) spec2 winFacts2.arr_unscoped) c
set_option backward.isDefEq.respectTransparency.types false in
/-- The third region hands back the buffers at the contents after it. -/
theorem reg2_post (c : Dev nD) : (reg2 m).post c ⊢ iprop(StableHlo.held (c.tc : Thread nD τ) (Pipeline.ucRefs τ sig) (W3 m c) ∗ rest c) :=
  RegionSeg.ofHeldIn_post (pcs := pcfgs (F := F)) (a := adm) (pdats := pd m) (ι := ()) (defs₀ := defs₀) (𝒱₀ := Variants.none) (L := lev) (lv := lv0) (p := 2) (D := fun _ => 0) (S := Pipeline.ucRefs τ sig)
    (X := fun _ => iprop(emp)) (Y := fun _ => iprop(emp)) (R := fun _ => iprop(emp)) (W := W2 m) (b := fun _ => 0) (Pipeline.arrRefs_sub_ucRefs (τ := τ) spec2 winFacts2.arr_unscoped) c

/-- The host reshapes before the regions. -/
def hseg0 : HostSeg (Ix := Unit) (Name := ℕ) (U := UR sig nD τ) (Lvl := ℕ) (pcfgs (F := F)) defs₀ Variants.none lev lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
/-- The host reshape after them. -/
def hseg3 : HostSeg (Ix := Unit) (Name := ℕ) (U := UR sig nD τ) (Lvl := ℕ) (pcfgs (F := F)) defs₀ Variants.none lev lv0 :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) rest

/-- @main as segments. -/
abbrev items : List (Seg (pcfgs (F := F)) adm (pd m) () defs₀ Variants.none lev lv0) :=
  [.host (hseg0 m), .region (reg0 m), .region (reg1 m), .region (reg2 m), .host (hseg3 m)]

/-! ## The run -/

set_option backward.isDefEq.respectTransparency.types false in
/-- Every weakly fair execution of @main from memory `m` with zero counters terminates, and every final state holds the
    contents `W4 m` in every unscoped buffer and zero in every semaphore counter. -/
theorem run_all : θ_run defs (onTc (τ := τ) (main (F := F))) ⟨m, fun _ => 0, ρ⟩ (fun r =>
    (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pd m) () cellOf_inj emb₁ defs₀ Variants.none lev lv0 m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0)
    (fun g h => by unfold lev; rw [if_neg h]) (fun _ => iprop(emp))
    (initOf (Pipeline.cells cfgs cellOf_inj) (Pipeline.launchToks cfgs cellOf_inj)) ?_
    (T₀ := fun c => iprop(StableHlo.held (c.tc : Thread nD τ) (Pipeline.ucRefs τ sig) (fun b => m (c, b)) ∗ rest c))
    (Tₙ := fun c => StableHlo.held (c.tc : Thread nD τ) (Pipeline.ucRefs τ sig) (W4 m c))
    (hch := fun c => ⟨.rfl, reg0_pre m c, (reg0_post m c).trans (reg1_pre m c), (reg1_post m c).trans (reg2_pre m c), reg2_post m c, ?_⟩)
    (hinit := ?_) (QY := fun c s => ∀ b ∈ Pipeline.ucRefs τ sig, s.mem ((c.tc : Thread nD τ).1, b) = W4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c.tc : Thread nD τ) (Pipeline.ucRefs τ sig) (W4 m c) ∗ rest c) ⊢ _
    iintro ⟨Hh, HO, -⟩
    isplitl [Hh]; · iexact Hh
    iexact HO
  · refine Pipeline.initEach lev lv0 fun c => ?_
    rw [show unscopedBufs c (fun b => m ((c.tc : Thread nD τ).loc b)) = StableHlo.held (c.tc : Thread nD τ) (Pipeline.ucRefs τ sig) (fun b => m (c, b))
      from Pipeline.unscopedBufs_held (Ix := Unit) (Name := ℕ) (U := UR sig nD τ) (Lvl := ℕ) c (fun b => m (c, b))]
    iintro ⟨⟨Hh, -, HO, -⟩, -⟩
    imodintro
    isplitl [Hh]; · iexact Hh
    isplitl [HO]; · iexists _; iexact HO
    isplitr; · iempintro
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro; iexact Hr

/-- No item changes a buffer that no host stretch writes and no region's output window stages. -/
theorem W4_keeps (c : Dev nD) (r : Ref sig .tc) (h0 : r ∉ hostOps0_W) (h3 : r ∉ hostOps3_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) : W4 m c (Proc.devRef .tc r) = m ((c : Thread nD τ).loc r) :=
  (W4_of m c r h3).trans ((W3_of m c r g2).trans ((W2_of m c r g1).trans ((W1_of m c r g0).trans (W0_of m c r h0))))

/-- A TensorCore's unscoped buffer, read off the run's post. -/
theorem read_end {s : MemSt nD τ sig (Elt F)} (c : Dev nD) (r : Ref sig .tc) (hr : r.isScoped = false)
    (h : ∀ b ∈ Pipeline.ucRefs τ sig, s.mem ((c.tc : Thread nD τ).1, b) = W4 m c b) :
    s.mem ((c.tc : Thread nD τ).loc r) = W4 m c (Proc.devRef .tc r) :=
  h (Proc.devRef .tc r) (Finset.mem_filter.mpr ⟨StableHlo.devRef_mem_tcRefs r, fun h' => Bool.false_ne_true (hr.symm.trans h')⟩)

/-- The arguments end as launched, and every counter at zero: the frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(read_end m c main_arg0 rfl (h.1 c)).trans (W4_keeps m c main_arg0 (by decide) (by decide) (by decide) (by decide) (by decide)),
      (read_end m c main_arg1 rfl (h.1 c)).trans (W4_keeps m c main_arg1 (by decide) (by decide) (by decide) (by decide) (by decide)),
      (read_end m c main_arg2 rfl (h.1 c)).trans (W4_keeps m c main_arg2 (by decide) (by decide) (by decide) (by decide) (by decide)),
      (read_end m c main_arg3 rfl (h.1 c)).trans (W4_keeps m c main_arg3 (by decide) (by decide) (by decide) (by decide) (by decide)),
      (read_end m c main_arg4 rfl (h.1 c)).trans (W4_keeps m c main_arg4 (by decide) (by decide) (by decide) (by decide) (by decide)),
      (read_end m c main_arg5 rfl (h.1 c)).trans (W4_keeps m c main_arg5 (by decide) (by decide) (by decide) (by decide) (by decide)),
      (read_end m c main_arg6 rfl (h.1 c)).trans (W4_keeps m c main_arg6 (by decide) (by decide) (by decide) (by decide) (by decide)),
      (read_end m c main_arg7 rfl (h.1 c)).trans (W4_keeps m c main_arg7 (by decide) (by decide) (by decide) (by decide) (by decide)),
      (read_end m c main_arg8 rfl (h.1 c)).trans (W4_keeps m c main_arg8 (by decide) (by decide) (by decide) (by decide) (by decide)),
      (read_end m c main_arg9 rfl (h.1 c)).trans (W4_keeps m c main_arg9 (by decide) (by decide) (by decide) (by decide) (by decide)),
      (read_end m c main_arg10 rfl (h.1 c)).trans (W4_keeps m c main_arg10 (by decide) (by decide) (by decide) (by decide) (by decide)),
      (read_end m c main_arg11 rfl (h.1 c)).trans (W4_keeps m c main_arg11 (by decide) (by decide) (by decide) (by decide) (by decide)),
      (read_end m c main_arg12 rfl (h.1 c)).trans (W4_keeps m c main_arg12 (by decide) (by decide) (by decide) (by decide) (by decide)),
      (read_end m c main_arg13 rfl (h.1 c)).trans (W4_keeps m c main_arg13 (by decide) (by decide) (by decide) (by decide) (by decide))⟩, h.2⟩) (run_all m ρ)

end Cert.Kernel.Run

end
-- ==== Proof.IdealBody0.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Tactic
public import Idealize.ShloMosaic.Lib.WordCmp
public import Idealize.ShloMosaic.Lib.VecWindow
public import Idealize.ShloMosaic.Lib.Pipeline.ValueKit.Acc
public import Idealize.ShloMosaic.Lib.Pipeline.FrameBody
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body resets its accumulator, from the grid coordinates. -/
abbrev first0 (i : grid0.Coords) : Prop := (Scalar.cmpi .ne (Scalar.extui (Scalar.cmpi .eq (BitVec.ofNat 32 (i 0).val) 0#32)) 0#32) = 1#1
/-- The condition under which the body stores its result. -/
abbrev last0 (i : grid0.Coords) : Prop := k0_cond2 i = 1#1

/-- The reset happens at the first point only. -/
theorem first0_iff : ∀ t : Fin cfg0.N, first0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [first0, e0]
    word_cmp
   : ∀ t : Fin grid0.N, first0 (grid0.coords t) ↔ t.val % 10 = 0)

/-- The result is stored at the last point only. -/
theorem last0_iff : ∀ t : Fin cfg0.N, last0 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [last0, k0_cond2, e0]
    word_cmp
   : ∀ t : Fin grid0.N, last0 (grid0.coords t) ↔ t.val % 10 = 9)

/-- The block of the first layer's node features: the block of `x` times the input weights plus the bias. -/
abbrev nodes0 (x0 : Vec F S1000x128 .f32) (x2 : Vec F S128x128 .f32) (x3 : Vec F S1x128 .f32) : Vec F S1000x128 .f32 := k0_pay1 x0 x2 x3

/-- The block of the packed incidence words, from the block of the incidence matrix. -/
def words0 (x1 : Vec F S1000x4096 .f32) : Vec F S1000x128 .i32 :=
  k0_pay11 x1 (k0_pay8 x1 (k0_pay6 x1) (k0_pay7 x1) (FloatOps.ofBits .f32 0x44800000#32)) (k0_pay9 x1 (k0_pay5 (F := F))) (k0_pay10 x1) (FloatOps.ofBits .f32 0x42800000#32)

/-- The accumulator after a point that found it at `s`, reset first when `z`: the block's contribution is added. -/
def acc0 (z : Prop) [Decidable z] (x0 : Vec F S1000x128 .f32) (x1 : Vec F S1000x4096 .f32) (x2 : Vec F S128x128 .f32) (x3 : Vec F S1x128 .f32) (s : Vec F S128x4096 .f32) : Vec F S128x4096 .f32 :=
  k0_pay3 x1 x0 x2 x3 (if z then k0_pay2 (F := F) else s)

/-- What the last point stores: the accumulator transposed. -/
abbrev fin0 (s : Vec F S128x4096 .f32) : Vec F S4096x128 .bf16 := k0_pay4 s

set_option maxHeartbeats 3000000 in
/-- The kernel body of custom call 0 on any whole staging memrefs: the inputs stay, each output stored at every point gets
    its block, the accumulator its update, and the last point stores the result. -/
theorem body0 (c : Dev nD) (i : grid0.Coords) (arg1 : Memref sig .tc .vmem S1000x128 .f32) (harg1 : arg1.IsWhole) (arg2 : Memref sig .tc .vmem S1000x4096 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1000x128 .f32) (harg5 : arg5.IsWhole) (arg6 : Memref sig .tc .vmem S1000x128 .i32) (harg6 : arg6.IsWhole) (arg7 : Memref sig .tc .vmem S4096x128 .bf16) (harg7 : arg7.IsWhole) (arg8 : Memref sig .tc .vmem S128x4096 .f32) (harg8 : arg8.IsWhole)
    (x0 : Vec F S1000x128 .f32) (x1 : Vec F S1000x4096 .f32) (x2 : Vec F S128x128 .f32) (x3 : Vec F S1x128 .f32) (o : Vec F S4096x128 .bf16) (s : Vec F S128x4096 .f32) (hx : first0 i → ¬ last0 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare o ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (nodes0 x0 x2 x3) ∗ owns (c : Thread nD τ) arg6 fullShare (words0 x1) ∗ owns (c : Thread nD τ) arg7 fullShare (if last0 i then fin0 (acc0 (first0 i) x0 x1 x2 x3 s) else o) ∗ owns (c : Thread nD τ) arg8 fullShare (acc0 (first0 i) x0 x1 x2 x3 s)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  by_cases hc0 : first0 i <;> by_cases hc1 : last0 i
  · exact absurd hc1 (hx hc0)
  all_goals
    simp only [cc0__pass1_body_eq_skeleton]; unfold cc0__pass1_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fs, %hfs, HS⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      sl_unfold_words
      refine (View.read_writes_full _ _ _ _ _).trans ?_
      simp (discharger := decide) only [View.readAt_eq_ld, harg1.read_unread, harg2.read_unread, harg3.read_unread, harg4.read_unread, harg8.read_unread, View.ld_unit_lit, View.readCov_unit_lit, words0, acc0, fin0]
    isplitl [H5]
    · iexists _; isplitr
      swap; · iexact H5
      ipureintro
      sl_unfold_words
      refine (View.read_writes_full _ _ _ _ _).trans ?_
      simp (discharger := decide) only [View.readAt_eq_ld, harg1.read_unread, harg2.read_unread, harg3.read_unread, harg4.read_unread, harg8.read_unread, View.ld_unit_lit, View.readCov_unit_lit, words0, acc0, fin0]
    isplitl [H6]
    · iexists _; isplitr
      swap; · iexact H6
      ipureintro
      sl_unfold_words
      first
        | (rw [if_neg hc1]; exact harg7.read_unread _)
        | (rw [if_pos hc1]
           refine (View.read_writes_full _ _ _ _ _).trans ?_
           simp (discharger := decide) only [View.readAt_eq_ld, harg1.read_unread, harg2.read_unread, harg3.read_unread, harg4.read_unread, harg8.read_unread, View.ld_unit_lit, View.readCov_unit_lit, words0, acc0, fin0]
           first | rw [if_pos hc0] | rw [if_neg hc0])
    · iexists _; isplitr
      swap; · iexact HS
      ipureintro
      sl_unfold_words
      refine (View.read_writes_full _ _ _ _ _).trans ?_
      simp (discharger := decide) only [View.readAt_eq_ld, harg1.read_unread, harg2.read_unread, harg3.read_unread, harg4.read_unread, harg8.read_unread, View.ld_unit_lit, View.readCov_unit_lit, words0, acc0, fin0]
      first | rw [if_pos hc0] | rw [if_neg hc0]

end Cert.KernelIdeal.Run

end
-- ==== Proof.IdealRegion0.lean ====
module

public import proofs.«01_k».proof.Proof.IdealBody0
public import proofs.«01_k».proof.Proof.Gen.KernelIdeal.Launch

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of core `c`'s buffers when the region is entered, by reference. -/
abbrev at0 (W : Dev nD → Valuation τ sig (Elt F)) (c : Dev nD) (b : Ref sig .tc) : Buf (Elt F) ((c : Thread nD τ).loc b) := W c (Proc.devRef .tc b)

/-- Window `w`'s block at point `t`, read off its array as the region finds it. -/
def blk0 (W : Dev nD → Valuation τ sig (Elt F)) (c : Dev nD) (w : Fin cfg0.W) (t : Fin cfg0.N) : ((cfg0.win w).xblock (cfg0.grid.coords t)).Idx → Elt F (cfg0.win w).elt :=
  ((cfg0.win w).blk t).view.read (Elt F) (at0 W c (Pipeline.arrRef spec0 w))

/-- The accumulator after the first `n` points. -/
def scr0 (W : Dev nD → Valuation τ sig (Elt F)) (c : Dev nD) : ℕ → Vec F S128x4096 .f32
  | 0 => k0_pay2
  | n + 1 => if h : n < cfg0.N then acc0 (first0 (grid0.coords ⟨n, h⟩)) (blk0 W c 0 ⟨n, h⟩) (blk0 W c 1 ⟨n, h⟩) (blk0 W c 2 ⟨n, h⟩) (blk0 W c 3 ⟨n, h⟩) (scr0 W c n) else scr0 W c n

/-- The invariant before point `t`: the accumulator holds the fold over the points before (anything before the first), and
    the remaining scoped buffers hold anything. -/
def inv0 (W : Dev nD → Valuation τ sig (Elt F)) (c : Dev nD) (n : ℕ) : sProp 𝕄 :=
  iprop((∃ d, ⌜n ≠ 0 → d = scr0 W c n⌝ ∗ owns (c : Thread nD τ) (Memref.whole cc0_scratch0) fullShare d)
    ∗ Pipeline.scopedRestBut (Ix := Unit) (Name := ℕ) (U := UR sig nD τ) (Lvl := ℕ) (Val := Elt F) spec0 c [cc0_scratch0])

/-- The pipeline's proof data over the contents `W` the region is entered at. -/
def dat0 (W : Dev nD → Valuation τ sig (Elt F)) (c : Dev nD) : Dat τ (Elt F) Unit ℕ (UR sig nD τ) ℕ cfg0 c where
  A w := at0 W c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => nodes0 (blk0 W c 0 t) (blk0 W c 2 t) (blk0 W c 3 t)
    | ⟨5, _⟩ => words0 (blk0 W c 1 t)
    | ⟨6, _⟩ => fin0 (scr0 W c (t.val + 1))
  Φ t := inv0 W c t.val
  q _ := fullShare
  owed _ := 0

section
variable (W : Dev nD → Valuation τ sig (Elt F))

/-- The arrays are entered at the region's contents. -/
theorem A0 (c : Dev nD) (w : Fin cfg0.W) : (dat0 W c).A w = at0 W c (Pipeline.arrRef spec0 w) := by
  dsimp only [dat0]

/-- A point leaves input window 0 at its block. -/
theorem after0_0 (c : Dev nD) (t : Fin cfg0.N) : (dat0 W c).after 0 t = blk0 W c 0 t := by dsimp only [dat0]
/-- A point leaves input window 1 at its block. -/
theorem after0_1 (c : Dev nD) (t : Fin cfg0.N) : (dat0 W c).after 1 t = blk0 W c 1 t := by dsimp only [dat0]
/-- A point leaves input window 2 at its block. -/
theorem after0_2 (c : Dev nD) (t : Fin cfg0.N) : (dat0 W c).after 2 t = blk0 W c 2 t := by dsimp only [dat0]
/-- A point leaves input window 3 at its block. -/
theorem after0_3 (c : Dev nD) (t : Fin cfg0.N) : (dat0 W c).after 3 t = blk0 W c 3 t := by dsimp only [dat0]
/-- What a point leaves in output window 4. -/
theorem after0_4 (c : Dev nD) (t : Fin cfg0.N) : (dat0 W c).after 4 t = nodes0 (blk0 W c 0 t) (blk0 W c 2 t) (blk0 W c 3 t) := by dsimp only [dat0]
/-- What a point leaves in output window 5. -/
theorem after0_5 (c : Dev nD) (t : Fin cfg0.N) : (dat0 W c).after 5 t = words0 (blk0 W c 1 t) := by dsimp only [dat0]
/-- What a point leaves in output window 6. -/
theorem after0_6 (c : Dev nD) (t : Fin cfg0.N) : (dat0 W c).after 6 t = fin0 (scr0 W c (t.val + 1)) := by dsimp only [dat0]

/-- Input window 0's staging buffer holds its block at every point. -/
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [A0]; try rfl) t d).trans
    (by unfold Dat.fetched Dat.blockOf blk0; rw [A0]; try rfl)
/-- Input window 1's staging buffer holds its block at every point. -/
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [A0]; try rfl) t d).trans
    (by unfold Dat.fetched Dat.blockOf blk0; rw [A0]; try rfl)
/-- Input window 2's staging buffer holds its block at every point. -/
theorem before0_2 (c : Dev nD) (t : Fin cfg0.N) (d) : (dat0 W c).before 2 t d = blk0 W c 2 t :=
  ((dat0 W c).before_in_eq_fetched 2 rfl (fun _ => rfl) (fun _ _ _ => rfl) (fun t => by rw [after0_2]; unfold Dat.blockOf blk0; rw [A0]; try rfl) t d).trans
    (by unfold Dat.fetched Dat.blockOf blk0; rw [A0]; try rfl)
/-- Input window 3's staging buffer holds its block at every point. -/
theorem before0_3 (c : Dev nD) (t : Fin cfg0.N) (d) : (dat0 W c).before 3 t d = blk0 W c 3 t :=
  ((dat0 W c).before_in_eq_fetched 3 rfl (fun _ => rfl) (fun _ _ _ => rfl) (fun t => by rw [after0_3]; unfold Dat.blockOf blk0; rw [A0]; try rfl) t d).trans
    (by unfold Dat.fetched Dat.blockOf blk0; rw [A0]; try rfl)

/-- Away from the last point the result's window is idle and not written back. -/
theorem idle0 : ∀ t : Fin cfg0.N, ¬ last0 (grid0.coords t) → cfg0.idle 6 (grid0.coords t) = true ∧ (cfg0.win 6).flush t = false := by decide +kernel
/-- At the last point it is live. -/
theorem live0 : ∀ t : Fin cfg0.N, last0 (grid0.coords t) → cfg0.idle 6 (grid0.coords t) = false := by decide +kernel
/-- No point is both the first and the last. -/
theorem apart0 (t : Fin cfg0.N) (h : first0 (grid0.coords t)) : ¬ last0 (grid0.coords t) := fun h' => by
  have h0 := (first0_iff t).mp h; have h1 := (last0_iff t).mp h'; omega

/-- The fold's step: a point's update of what it finds, which at the first point may be anything. -/
theorem scr0_step (c : Dev nD) (t : Fin cfg0.N) (d : Vec F S128x4096 .f32) (hd : t.val ≠ 0 → d = scr0 W c t.val) :
    acc0 (first0 (grid0.coords t)) (blk0 W c 0 t) (blk0 W c 1 t) (blk0 W c 2 t) (blk0 W c 3 t) d = scr0 W c (t.val + 1) := by
  rw [scr0, dif_pos t.isLt]
  by_cases h : t.val = 0
  · have hf : first0 (grid0.coords t) := (first0_iff t).mpr (by rw [h])
    unfold acc0; simp only [if_pos hf]
  · rw [hd h]

set_option maxHeartbeats 1000000 in
/-- The body at point `t`, from the staging buffers as the pipeline hands them to what it takes back. -/
theorem sound0 (c : Dev nD) (t : Fin cfg0.N) :
    iprop((dat0 W c).Φ t.castSucc ∗ (dat0 W c).owesAt () t.castSucc
        ∗ (∃ d, owns (c : Thread nD τ) (win0_0.stage (cfg0.slots t 0)) fullShare ((dat0 W c).before 0 t d)) ∗ (∃ d, owns (c : Thread nD τ) (win0_1.stage (cfg0.slots t 1)) fullShare ((dat0 W c).before 1 t d)) ∗ (∃ d, owns (c : Thread nD τ) (win0_2.stage (cfg0.slots t 2)) fullShare ((dat0 W c).before 2 t d)) ∗ (∃ d, owns (c : Thread nD τ) (win0_3.stage (cfg0.slots t 3)) fullShare ((dat0 W c).before 3 t d)) ∗ (∃ d, owns (c : Thread nD τ) (win0_4.stage (cfg0.slots t 4)) fullShare ((dat0 W c).before 4 t d)) ∗ (∃ d, owns (c : Thread nD τ) (win0_5.stage (cfg0.slots t 5)) fullShare ((dat0 W c).before 5 t d)) ∗ (∃ d, owns (c : Thread nD τ) (win0_6.stage (cfg0.slots t 6)) fullShare ((dat0 W c).before 6 t d)))
      ⊢ wp frame (wpE (defs₀ (F := F)) Variants.none c none) Set.univ (bodyAt0 t) (fun _ =>
        iprop((dat0 W c).Φ t.succ ∗ (dat0 W c).owesAt () t.succ ∗ (dat0 W c).leavesExact 0 t ∗ (dat0 W c).leavesExact 1 t ∗ (dat0 W c).leavesExact 2 t ∗ (dat0 W c).leavesExact 3 t ∗ (dat0 W c).leavesExact 4 t ∗ (dat0 W c).leavesExact 5 t ∗ (dat0 W c).leavesExact 6 t)) := by
  unfold bodyAt0
  simp only [before0_0, before0_1, before0_2, before0_3]
  rw [show (dat0 W c).owesAt () t.succ = (dat0 W c).owesAt () t.castSucc from rfl,
    show (dat0 W c).Φ t.succ = inv0 W c (t.val + 1) from rfl, show (dat0 W c).Φ t.castSucc = inv0 W c t.val from rfl]
  rw [show (dat0 W c).leavesExact 0 t = owns (c : Thread nD τ) (win0_0.stage (cfg0.slots t 0)) fullShare ((dat0 W c).after 0 t) from by
    unfold Dat.leavesExact; rw [show cfg0.idle 0 (grid0.coords t) = false from rfl], after0_0]
  rw [show (dat0 W c).leavesExact 1 t = owns (c : Thread nD τ) (win0_1.stage (cfg0.slots t 1)) fullShare ((dat0 W c).after 1 t) from by
    unfold Dat.leavesExact; rw [show cfg0.idle 1 (grid0.coords t) = false from rfl], after0_1]
  rw [show (dat0 W c).leavesExact 2 t = owns (c : Thread nD τ) (win0_2.stage (cfg0.slots t 2)) fullShare ((dat0 W c).after 2 t) from by
    unfold Dat.leavesExact; rw [show cfg0.idle 2 (grid0.coords t) = false from rfl], after0_2]
  rw [show (dat0 W c).leavesExact 3 t = owns (c : Thread nD τ) (win0_3.stage (cfg0.slots t 3)) fullShare ((dat0 W c).after 3 t) from by
    unfold Dat.leavesExact; rw [show cfg0.idle 3 (grid0.coords t) = false from rfl], after0_3]
  rw [show (dat0 W c).leavesExact 4 t = owns (c : Thread nD τ) (win0_4.stage (cfg0.slots t 4)) fullShare ((dat0 W c).after 4 t) from by
    unfold Dat.leavesExact; rw [show cfg0.idle 4 (grid0.coords t) = false from rfl], after0_4]
  rw [show (dat0 W c).leavesExact 5 t = owns (c : Thread nD τ) (win0_5.stage (cfg0.slots t 5)) fullShare ((dat0 W c).after 5 t) from by
    unfold Dat.leavesExact; rw [show cfg0.idle 5 (grid0.coords t) = false from rfl], after0_5]
  unfold inv0
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩⟩
  iapply (body0 c (grid0.coords t) _ _ _ _ _ _ _ _ _ _ _ _ _ _ _ _ (blk0 W c 0 t) (blk0 W c 1 t) (blk0 W c 2 t) (blk0 W c 3 t) _ ds (apart0 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [HS]; · iexact HS
  rw [scr0_step W c t ds hds]
  iintro ⟨H0, H1, H2, H3, H4, H5, H6, HS⟩
  isplitl [HS Hg]
  · isplitl [HS]
    · iexists _; isplitr; · ipureintro; exact fun _ => rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases hl : last0 (grid0.coords t)
  · rw [if_pos hl, show (dat0 W c).leavesExact 6 t = owns (c : Thread nD τ) (win0_6.stage (cfg0.slots t 6)) fullShare ((dat0 W c).after 6 t) from by
      unfold Dat.leavesExact; rw [live0 t hl], after0_6]
    iexact H6
  · rw [if_neg hl, Dat.leavesExact_idle (dat0 W c) 6 t (idle0 t hl).1 (idle0 t hl).2]
    iexists _; iexact H6

/-- The body table's row at point `t`'s slots is the body at the point. -/
theorem row0 (t : Fin cfg0.N) : defs₀ (F := F) .tc cfg0.body (cfg0.bodyArgs t (cfg0.slots t)) = bodyAt0 t := by
  unfold defs₀; rw [Defs.onTc_tc]

/-- The pipeline's body obligation. -/
theorem obligation0 (c : Dev nD) : BodyObligation (dat0 W c) (defs₀ (F := F)) Variants.none () Set.univ := fun t => by
  rw [bigSep_W0, bigSep_W0, row0]
  exact triple_restated (sound0 W c t) rfl .rfl fun _ => .rfl

/-- The scoped buffers no window stages give the invariant before the first point, -/
theorem enter0 (c : Dev nD) :
    iprop((Pipeline.scopedRest (Ix := Unit) (Name := ℕ) (U := UR sig nD τ) (Lvl := ℕ) (Val := Elt F) spec0 c : sProp 𝕄) ∗ emp) ⊢ inv0 W c 0 := by
  rw [scopedRest0_split]; unfold inv0; simp only [owns_whole_eq]
  iintro ⟨⟨⟨%f, H⟩, Hr⟩, -⟩
  isplitl [H]
  · iexists f; isplitr; · ipureintro; exact fun h => absurd rfl h
    iexists f; isplitr; · ipureintro; rfl
    iexact H
  iexact Hr

/-- and the invariant gives them back. -/
theorem leave0 (c : Dev nD) (n : ℕ) :
    inv0 W c n ⊢ iprop((Pipeline.scopedRest (Ix := Unit) (Name := ℕ) (U := UR sig nD τ) (Lvl := ℕ) (Val := Elt F) spec0 c : sProp 𝕄) ∗ emp) := by
  rw [scopedRest0_split]; unfold inv0; simp only [owns_whole_eq]
  iintro ⟨⟨%d, -, %f, -, H⟩, Hr⟩
  isplitl [H Hr]
  · isplitl [H]
    · iexists f; iexact H
    iexact Hr
  iempintro

end

end Cert.KernelIdeal.Run

end
-- ==== Proof.IdealBody1.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Tactic
public import Idealize.ShloMosaic.Lib.WordCmp
public import Idealize.ShloMosaic.Lib.VecWindow
public import Idealize.ShloMosaic.Lib.Pipeline.ValueKit.Acc
public import Idealize.ShloMosaic.Lib.Pipeline.FrameBody
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body resets its accumulator, from the grid coordinates. -/
abbrev first1 (i : grid1.Coords) : Prop := (Scalar.cmpi .ne (Scalar.extui (Scalar.cmpi .eq (BitVec.ofNat 32 (i 0).val) 0#32)) 0#32) = 1#1
/-- The condition under which the body stores its result. -/
abbrev last1 (i : grid1.Coords) : Prop := k1_cond2 i = 1#1

/-- The reset happens at the first point only. -/
theorem first1_iff : ∀ t : Fin cfg1.N, first1 (grid1.coords t) ↔ t.val % 5 = 0 :=
  (fun t => by
    have ht : t.val < 5 := Nat.lt_of_lt_of_eq t.isLt N_1
    have e0 : (grid1.coords t 0).val = t.val / 1 % 5 := Pipeline.Grid.coords_val t 0 (by decide) rfl
    simp only [first1, e0]
    word_cmp
   : ∀ t : Fin grid1.N, first1 (grid1.coords t) ↔ t.val % 5 = 0)

/-- The result is stored at the last point only. -/
theorem last1_iff : ∀ t : Fin cfg1.N, last1 (grid1.coords t) ↔ t.val % 5 = 4 :=
  (fun t => by
    have ht : t.val < 5 := Nat.lt_of_lt_of_eq t.isLt N_1
    have e0 : (grid1.coords t 0).val = t.val / 1 % 5 := Pipeline.Grid.coords_val t 0 (by decide) rfl
    simp only [last1, k1_cond2, e0]
    word_cmp
   : ∀ t : Fin grid1.N, last1 (grid1.coords t) ↔ t.val % 5 = 4)

/-- The block of the incidence matrix unpacked from the block of words. -/
def bits1 (w : Vec F S2000x128 .i32) : Vec F S2000x4096 .bf16 :=
  k1_pay33 (k1_pay5 w) (k1_pay6 w) (k1_pay7 w) (k1_pay8 w) (k1_pay9 w) (k1_pay10 w) (k1_pay11 w) (k1_pay12 w) (k1_pay14 (k1_pay13 w)) (k1_pay15 (k1_pay5 w)) (k1_pay16 (k1_pay5 w)) (k1_pay17 (k1_pay5 w)) (k1_pay18 (k1_pay5 w)) (k1_pay19 (k1_pay5 w)) (k1_pay20 (k1_pay5 w)) (k1_pay21 (k1_pay5 w)) (k1_pay22 (k1_pay5 w)) (k1_pay24 (k1_pay23 (k1_pay5 w))) (k1_pay25 (k1_pay5 w)) (k1_pay26 (k1_pay5 w)) (k1_pay27 (k1_pay5 w)) (k1_pay28 (k1_pay5 w)) (k1_pay29 (k1_pay5 w)) (k1_pay30 (k1_pay5 w)) (k1_pay31 (k1_pay5 w)) (k1_pay32 (k1_pay5 w))

/-- The unpacked block times the hyperedge features. -/
def msg1 (w : Vec F S2000x128 .i32) (x2 : Vec F S4096x128 .bf16) : Vec F S2000x128 .f32 :=
  k1_pay35 (k1_pay5 w) (k1_pay6 w) (k1_pay7 w) (k1_pay8 w) (k1_pay9 w) (k1_pay10 w) (k1_pay11 w) (k1_pay12 w) (k1_pay14 (k1_pay13 w)) (k1_pay15 (k1_pay5 w)) (k1_pay16 (k1_pay5 w)) (k1_pay17 (k1_pay5 w)) (k1_pay18 (k1_pay5 w)) (k1_pay19 (k1_pay5 w)) (k1_pay20 (k1_pay5 w)) (k1_pay21 (k1_pay5 w)) (k1_pay22 (k1_pay5 w)) (k1_pay24 (k1_pay23 (k1_pay5 w))) (k1_pay25 (k1_pay5 w)) (k1_pay26 (k1_pay5 w)) (k1_pay27 (k1_pay5 w)) (k1_pay28 (k1_pay5 w)) (k1_pay29 (k1_pay5 w)) (k1_pay30 (k1_pay5 w)) (k1_pay31 (k1_pay5 w)) (k1_pay32 (k1_pay5 w)) x2

/-- The block of the second layer's node features. -/
def nodes1 (w : Vec F S2000x128 .i32) (x1 : Vec F S2000x128 .f32) (x2 : Vec F S4096x128 .bf16) (x3 : Vec F S128x256 .f32) (x4 : Vec F S1x256 .f32) (x5 : Vec F S256x128 .f32) (x6 : Vec F S1x128 .f32) : Vec F S2000x128 .f32 :=
  k1_pay1 (k1_pay34 x1) (msg1 w x2) x3 x4 x5 x6

/-- The accumulator after a point that found it at `s`, reset first when `z`: the block's contribution is added. -/
def acc1 (z : Prop) [Decidable z] (w : Vec F S2000x128 .i32) (x1 : Vec F S2000x128 .f32) (x2 : Vec F S4096x128 .bf16) (x3 : Vec F S128x256 .f32) (x4 : Vec F S1x256 .f32) (x5 : Vec F S256x128 .f32) (x6 : Vec F S1x128 .f32) (s : Vec F S128x4096 .f32) : Vec F S128x4096 .f32 :=
  k1_pay3 (bits1 w) (k1_pay34 x1) (msg1 w x2) x3 x4 x5 x6 (if z then k1_pay2 (F := F) else s)

/-- What the last point stores: the accumulator transposed. -/
abbrev fin1 (s : Vec F S128x4096 .f32) : Vec F S4096x128 .bf16 := k1_pay4 s

set_option maxHeartbeats 3000000 in
/-- The kernel body of custom call 1 on any whole staging memrefs: the inputs stay, each output stored at every point gets
    its block, the accumulator its update, and the last point stores the result. -/
theorem body1 (c : Dev nD) (i : grid1.Coords) (arg1 : Memref sig .tc .vmem S2000x128 .i32) (harg1 : arg1.IsWhole) (arg2 : Memref sig .tc .vmem S2000x128 .f32) (harg2 : arg2.IsWhole) (arg3 : Memref sig .tc .vmem S4096x128 .bf16) (harg3 : arg3.IsWhole) (arg4 : Memref sig .tc .vmem S128x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S2000x128 .f32) (harg8 : arg8.IsWhole) (arg9 : Memref sig .tc .vmem S4096x128 .bf16) (harg9 : arg9.IsWhole) (arg10 : Memref sig .tc .vmem S128x4096 .f32) (harg10 : arg10.IsWhole)
    (x0 : Vec F S2000x128 .i32) (x1 : Vec F S2000x128 .f32) (x2 : Vec F S4096x128 .bf16) (x3 : Vec F S128x256 .f32) (x4 : Vec F S1x256 .f32) (x5 : Vec F S256x128 .f32) (x6 : Vec F S1x128 .f32) (o : Vec F S4096x128 .bf16) (s : Vec F S128x4096 .f32) (hx : first1 i → ¬ last1 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare o ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (nodes1 x0 x1 x2 x3 x4 x5 x6) ∗ owns (c : Thread nD τ) arg9 fullShare (if last1 i then fin1 (acc1 (first1 i) x0 x1 x2 x3 x4 x5 x6 s) else o) ∗ owns (c : Thread nD τ) arg10 fullShare (acc1 (first1 i) x0 x1 x2 x3 x4 x5 x6 s)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10) K := by
  by_cases hc0 : first1 i <;> by_cases hc1 : last1 i
  · exact absurd hc1 (hx hc0)
  all_goals
    simp only [cc1__pass2_body_eq_skeleton]; unfold cc1__pass2_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr
      swap; · iexact H7
      ipureintro
      sl_unfold_words
      refine (View.read_writes_full _ _ _ _ _).trans ?_
      simp (discharger := decide) only [View.readAt_eq_ld, harg1.read_unread, harg2.read_unread, harg3.read_unread, harg4.read_unread, harg5.read_unread, harg6.read_unread, harg7.read_unread, harg10.read_unread, View.ld_unit_lit, View.readCov_unit_lit, nodes1, bits1, msg1, acc1, fin1]
    isplitl [H8]
    · iexists _; isplitr
      swap; · iexact H8
      ipureintro
      sl_unfold_words
      first
        | (rw [if_neg hc1]; exact harg9.read_unread _)
        | (rw [if_pos hc1]
           refine (View.read_writes_full _ _ _ _ _).trans ?_
           simp (discharger := decide) only [View.readAt_eq_ld, harg1.read_unread, harg2.read_unread, harg3.read_unread, harg4.read_unread, harg5.read_unread, harg6.read_unread, harg7.read_unread, harg10.read_unread, View.ld_unit_lit, View.readCov_unit_lit, nodes1, bits1, msg1, acc1, fin1]
           first | rw [if_pos hc0] | rw [if_neg hc0])
    · iexists _; isplitr
      swap; · iexact HS
      ipureintro
      sl_unfold_words
      refine (View.read_writes_full _ _ _ _ _).trans ?_
      simp (discharger := decide) only [View.readAt_eq_ld, harg1.read_unread, harg2.read_unread, harg3.read_unread, harg4.read_unread, harg5.read_unread, harg6.read_unread, harg7.read_unread, harg10.read_unread, View.ld_unit_lit, View.readCov_unit_lit, nodes1, bits1, msg1, acc1, fin1]
      first | rw [if_pos hc0] | rw [if_neg hc0]

end Cert.KernelIdeal.Run

end
-- ==== Proof.IdealRegion1.lean ====
module

public import proofs.«01_k».proof.Proof.IdealBody1
public import proofs.«01_k».proof.Proof.Gen.KernelIdeal.Launch

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of core `c`'s buffers when the region is entered, by reference. -/
abbrev at1 (W : Dev nD → Valuation τ sig (Elt F)) (c : Dev nD) (b : Ref sig .tc) : Buf (Elt F) ((c : Thread nD τ).loc b) := W c (Proc.devRef .tc b)

/-- Window `w`'s block at point `t`, read off its array as the region finds it. -/
def blk1 (W : Dev nD → Valuation τ sig (Elt F)) (c : Dev nD) (w : Fin cfg1.W) (t : Fin cfg1.N) : ((cfg1.win w).xblock (cfg1.grid.coords t)).Idx → Elt F (cfg1.win w).elt :=
  ((cfg1.win w).blk t).view.read (Elt F) (at1 W c (Pipeline.arrRef spec1 w))

/-- The accumulator after the first `n` points. -/
def scr1 (W : Dev nD → Valuation τ sig (Elt F)) (c : Dev nD) : ℕ → Vec F S128x4096 .f32
  | 0 => k1_pay2
  | n + 1 => if h : n < cfg1.N then acc1 (first1 (grid1.coords ⟨n, h⟩)) (blk1 W c 0 ⟨n, h⟩) (blk1 W c 1 ⟨n, h⟩) (blk1 W c 2 ⟨n, h⟩) (blk1 W c 3 ⟨n, h⟩) (blk1 W c 4 ⟨n, h⟩) (blk1 W c 5 ⟨n, h⟩) (blk1 W c 6 ⟨n, h⟩) (scr1 W c n) else scr1 W c n

/-- The invariant before point `t`: the accumulator holds the fold over the points before (anything before the first), and
    the remaining scoped buffers hold anything. -/
def inv1 (W : Dev nD → Valuation τ sig (Elt F)) (c : Dev nD) (n : ℕ) : sProp 𝕄 :=
  iprop((∃ d, ⌜n ≠ 0 → d = scr1 W c n⌝ ∗ owns (c : Thread nD τ) (Memref.whole cc1_scratch0) fullShare d)
    ∗ Pipeline.scopedRestBut (Ix := Unit) (Name := ℕ) (U := UR sig nD τ) (Lvl := ℕ) (Val := Elt F) spec1 c [cc1_scratch0])

/-- The pipeline's proof data over the contents `W` the region is entered at. -/
def dat1 (W : Dev nD → Valuation τ sig (Elt F)) (c : Dev nD) : Dat τ (Elt F) Unit ℕ (UR sig nD τ) ℕ cfg1 c where
  A w := at1 W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => nodes1 (blk1 W c 0 t) (blk1 W c 1 t) (blk1 W c 2 t) (blk1 W c 3 t) (blk1 W c 4 t) (blk1 W c 5 t) (blk1 W c 6 t)
    | ⟨8, _⟩ => fin1 (scr1 W c (t.val + 1))
  Φ t := inv1 W c t.val
  q _ := fullShare
  owed _ := 0

section
variable (W : Dev nD → Valuation τ sig (Elt F))

/-- The arrays are entered at the region's contents. -/
theorem A1 (c : Dev nD) (w : Fin cfg1.W) : (dat1 W c).A w = at1 W c (Pipeline.arrRef spec1 w) := by
  dsimp only [dat1]

/-- A point leaves input window 0 at its block. -/
theorem after1_0 (c : Dev nD) (t : Fin cfg1.N) : (dat1 W c).after 0 t = blk1 W c 0 t := by dsimp only [dat1]
/-- A point leaves input window 1 at its block. -/
theorem after1_1 (c : Dev nD) (t : Fin cfg1.N) : (dat1 W c).after 1 t = blk1 W c 1 t := by dsimp only [dat1]
/-- A point leaves input window 2 at its block. -/
theorem after1_2 (c : Dev nD) (t : Fin cfg1.N) : (dat1 W c).after 2 t = blk1 W c 2 t := by dsimp only [dat1]
/-- A point leaves input window 3 at its block. -/
theorem after1_3 (c : Dev nD) (t : Fin cfg1.N) : (dat1 W c).after 3 t = blk1 W c 3 t := by dsimp only [dat1]
/-- A point leaves input window 4 at its block. -/
theorem after1_4 (c : Dev nD) (t : Fin cfg1.N) : (dat1 W c).after 4 t = blk1 W c 4 t := by dsimp only [dat1]
/-- A point leaves input window 5 at its block. -/
theorem after1_5 (c : Dev nD) (t : Fin cfg1.N) : (dat1 W c).after 5 t = blk1 W c 5 t := by dsimp only [dat1]
/-- A point leaves input window 6 at its block. -/
theorem after1_6 (c : Dev nD) (t : Fin cfg1.N) : (dat1 W c).after 6 t = blk1 W c 6 t := by dsimp only [dat1]
/-- What a point leaves in output window 7. -/
theorem after1_7 (c : Dev nD) (t : Fin cfg1.N) : (dat1 W c).after 7 t = nodes1 (blk1 W c 0 t) (blk1 W c 1 t) (blk1 W c 2 t) (blk1 W c 3 t) (blk1 W c 4 t) (blk1 W c 5 t) (blk1 W c 6 t) := by dsimp only [dat1]
/-- What a point leaves in output window 8. -/
theorem after1_8 (c : Dev nD) (t : Fin cfg1.N) : (dat1 W c).after 8 t = fin1 (scr1 W c (t.val + 1)) := by dsimp only [dat1]

/-- Input window 0's staging buffer holds its block at every point. -/
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [A1]; try rfl) t d).trans
    (by unfold Dat.fetched Dat.blockOf blk1; rw [A1]; try rfl)
/-- Input window 1's staging buffer holds its block at every point. -/
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [A1]; try rfl) t d).trans
    (by unfold Dat.fetched Dat.blockOf blk1; rw [A1]; try rfl)
/-- Input window 2's staging buffer holds its block at every point. -/
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [A1]; try rfl) t d).trans
    (by unfold Dat.fetched Dat.blockOf blk1; rw [A1]; try rfl)
/-- Input window 3's staging buffer holds its block at every point. -/
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [A1]; try rfl) t d).trans
    (by unfold Dat.fetched Dat.blockOf blk1; rw [A1]; try rfl)
/-- Input window 4's staging buffer holds its block at every point. -/
theorem before1_4 (c : Dev nD) (t : Fin cfg1.N) (d) : (dat1 W c).before 4 t d = blk1 W c 4 t :=
  ((dat1 W c).before_in_eq_fetched 4 rfl (fun _ => rfl) (fun _ _ _ => rfl) (fun t => by rw [after1_4]; unfold Dat.blockOf blk1; rw [A1]; try rfl) t d).trans
    (by unfold Dat.fetched Dat.blockOf blk1; rw [A1]; try rfl)
/-- Input window 5's staging buffer holds its block at every point. -/
theorem before1_5 (c : Dev nD) (t : Fin cfg1.N) (d) : (dat1 W c).before 5 t d = blk1 W c 5 t :=
  ((dat1 W c).before_in_eq_fetched 5 rfl (fun _ => rfl) (fun _ _ _ => rfl) (fun t => by rw [after1_5]; unfold Dat.blockOf blk1; rw [A1]; try rfl) t d).trans
    (by unfold Dat.fetched Dat.blockOf blk1; rw [A1]; try rfl)
/-- Input window 6's staging buffer holds its block at every point. -/
theorem before1_6 (c : Dev nD) (t : Fin cfg1.N) (d) : (dat1 W c).before 6 t d = blk1 W c 6 t :=
  ((dat1 W c).before_in_eq_fetched 6 rfl (fun _ => rfl) (fun _ _ _ => rfl) (fun t => by rw [after1_6]; unfold Dat.blockOf blk1; rw [A1]; try rfl) t d).trans
    (by unfold Dat.fetched Dat.blockOf blk1; rw [A1]; try rfl)

/-- Away from the last point the result's window is idle and not written back. -/
theorem idle1 : ∀ t : Fin cfg1.N, ¬ last1 (grid1.coords t) → cfg1.idle 8 (grid1.coords t) = true ∧ (cfg1.win 8).flush t = false := by decide +kernel
/-- At the last point it is live. -/
theorem live1 : ∀ t : Fin cfg1.N, last1 (grid1.coords t) → cfg1.idle 8 (grid1.coords t) = false := by decide +kernel
/-- No point is both the first and the last. -/
theorem apart1 (t : Fin cfg1.N) (h : first1 (grid1.coords t)) : ¬ last1 (grid1.coords t) := fun h' => by
  have h0 := (first1_iff t).mp h; have h1 := (last1_iff t).mp h'; omega

/-- The fold's step: a point's update of what it finds, which at the first point may be anything. -/
theorem scr1_step (c : Dev nD) (t : Fin cfg1.N) (d : Vec F S128x4096 .f32) (hd : t.val ≠ 0 → d = scr1 W c t.val) :
    acc1 (first1 (grid1.coords t)) (blk1 W c 0 t) (blk1 W c 1 t) (blk1 W c 2 t) (blk1 W c 3 t) (blk1 W c 4 t) (blk1 W c 5 t) (blk1 W c 6 t) d = scr1 W c (t.val + 1) := by
  rw [scr1, dif_pos t.isLt]
  by_cases h : t.val = 0
  · have hf : first1 (grid1.coords t) := (first1_iff t).mpr (by rw [h])
    unfold acc1; simp only [if_pos hf]
  · rw [hd h]

set_option maxHeartbeats 1000000 in
/-- The body at point `t`, from the staging buffers as the pipeline hands them to what it takes back. -/
theorem sound1 (c : Dev nD) (t : Fin cfg1.N) :
    iprop((dat1 W c).Φ t.castSucc ∗ (dat1 W c).owesAt () t.castSucc
        ∗ (∃ d, owns (c : Thread nD τ) (win1_0.stage (cfg1.slots t 0)) fullShare ((dat1 W c).before 0 t d)) ∗ (∃ d, owns (c : Thread nD τ) (win1_1.stage (cfg1.slots t 1)) fullShare ((dat1 W c).before 1 t d)) ∗ (∃ d, owns (c : Thread nD τ) (win1_2.stage (cfg1.slots t 2)) fullShare ((dat1 W c).before 2 t d)) ∗ (∃ d, owns (c : Thread nD τ) (win1_3.stage (cfg1.slots t 3)) fullShare ((dat1 W c).before 3 t d)) ∗ (∃ d, owns (c : Thread nD τ) (win1_4.stage (cfg1.slots t 4)) fullShare ((dat1 W c).before 4 t d)) ∗ (∃ d, owns (c : Thread nD τ) (win1_5.stage (cfg1.slots t 5)) fullShare ((dat1 W c).before 5 t d)) ∗ (∃ d, owns (c : Thread nD τ) (win1_6.stage (cfg1.slots t 6)) fullShare ((dat1 W c).before 6 t d)) ∗ (∃ d, owns (c : Thread nD τ) (win1_7.stage (cfg1.slots t 7)) fullShare ((dat1 W c).before 7 t d)) ∗ (∃ d, owns (c : Thread nD τ) (win1_8.stage (cfg1.slots t 8)) fullShare ((dat1 W c).before 8 t d)))
      ⊢ wp frame (wpE (defs₀ (F := F)) Variants.none c none) Set.univ (bodyAt1 t) (fun _ =>
        iprop((dat1 W c).Φ t.succ ∗ (dat1 W c).owesAt () t.succ ∗ (dat1 W c).leavesExact 0 t ∗ (dat1 W c).leavesExact 1 t ∗ (dat1 W c).leavesExact 2 t ∗ (dat1 W c).leavesExact 3 t ∗ (dat1 W c).leavesExact 4 t ∗ (dat1 W c).leavesExact 5 t ∗ (dat1 W c).leavesExact 6 t ∗ (dat1 W c).leavesExact 7 t ∗ (dat1 W c).leavesExact 8 t)) := by
  unfold bodyAt1
  simp only [before1_0, before1_1, before1_2, before1_3, before1_4, before1_5, before1_6]
  rw [show (dat1 W c).owesAt () t.succ = (dat1 W c).owesAt () t.castSucc from rfl,
    show (dat1 W c).Φ t.succ = inv1 W c (t.val + 1) from rfl, show (dat1 W c).Φ t.castSucc = inv1 W c t.val from rfl]
  rw [show (dat1 W c).leavesExact 0 t = owns (c : Thread nD τ) (win1_0.stage (cfg1.slots t 0)) fullShare ((dat1 W c).after 0 t) from by
    unfold Dat.leavesExact; rw [show cfg1.idle 0 (grid1.coords t) = false from rfl], after1_0]
  rw [show (dat1 W c).leavesExact 1 t = owns (c : Thread nD τ) (win1_1.stage (cfg1.slots t 1)) fullShare ((dat1 W c).after 1 t) from by
    unfold Dat.leavesExact; rw [show cfg1.idle 1 (grid1.coords t) = false from rfl], after1_1]
  rw [show (dat1 W c).leavesExact 2 t = owns (c : Thread nD τ) (win1_2.stage (cfg1.slots t 2)) fullShare ((dat1 W c).after 2 t) from by
    unfold Dat.leavesExact; rw [show cfg1.idle 2 (grid1.coords t) = false from rfl], after1_2]
  rw [show (dat1 W c).leavesExact 3 t = owns (c : Thread nD τ) (win1_3.stage (cfg1.slots t 3)) fullShare ((dat1 W c).after 3 t) from by
    unfold Dat.leavesExact; rw [show cfg1.idle 3 (grid1.coords t) = false from rfl], after1_3]
  rw [show (dat1 W c).leavesExact 4 t = owns (c : Thread nD τ) (win1_4.stage (cfg1.slots t 4)) fullShare ((dat1 W c).after 4 t) from by
    unfold Dat.leavesExact; rw [show cfg1.idle 4 (grid1.coords t) = false from rfl], after1_4]
  rw [show (dat1 W c).leavesExact 5 t = owns (c : Thread nD τ) (win1_5.stage (cfg1.slots t 5)) fullShare ((dat1 W c).after 5 t) from by
    unfold Dat.leavesExact; rw [show cfg1.idle 5 (grid1.coords t) = false from rfl], after1_5]
  rw [show (dat1 W c).leavesExact 6 t = owns (c : Thread nD τ) (win1_6.stage (cfg1.slots t 6)) fullShare ((dat1 W c).after 6 t) from by
    unfold Dat.leavesExact; rw [show cfg1.idle 6 (grid1.coords t) = false from rfl], after1_6]
  rw [show (dat1 W c).leavesExact 7 t = owns (c : Thread nD τ) (win1_7.stage (cfg1.slots t 7)) fullShare ((dat1 W c).after 7 t) from by
    unfold Dat.leavesExact; rw [show cfg1.idle 7 (grid1.coords t) = false from rfl], after1_7]
  unfold inv1
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body1 c (grid1.coords t) _ _ _ _ _ _ _ _ _ _ _ _ _ _ _ _ _ _ _ _ (blk1 W c 0 t) (blk1 W c 1 t) (blk1 W c 2 t) (blk1 W c 3 t) (blk1 W c 4 t) (blk1 W c 5 t) (blk1 W c 6 t) _ ds (apart1 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HS]; · iexact HS
  rw [scr1_step W c t ds hds]
  iintro ⟨H0, H1, H2, H3, H4, H5, H6, H7, H8, HS⟩
  isplitl [HS Hg]
  · isplitl [HS]
    · iexists _; isplitr; · ipureintro; exact fun _ => rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases hl : last1 (grid1.coords t)
  · rw [if_pos hl, show (dat1 W c).leavesExact 8 t = owns (c : Thread nD τ) (win1_8.stage (cfg1.slots t 8)) fullShare ((dat1 W c).after 8 t) from by
      unfold Dat.leavesExact; rw [live1 t hl], after1_8]
    iexact H8
  · rw [if_neg hl, Dat.leavesExact_idle (dat1 W c) 8 t (idle1 t hl).1 (idle1 t hl).2]
    iexists _; iexact H8

/-- The body table's row at point `t`'s slots is the body at the point. -/
theorem row1 (t : Fin cfg1.N) : defs₀ (F := F) .tc cfg1.body (cfg1.bodyArgs t (cfg1.slots t)) = bodyAt1 t := by
  unfold defs₀; rw [Defs.onTc_tc]

/-- The pipeline's body obligation. -/
theorem obligation1 (c : Dev nD) : BodyObligation (dat1 W c) (defs₀ (F := F)) Variants.none () Set.univ := fun t => by
  rw [bigSep_W1, bigSep_W1, row1]
  exact triple_restated (sound1 W c t) rfl .rfl fun _ => .rfl

/-- The scoped buffers no window stages give the invariant before the first point, -/
theorem enter1 (c : Dev nD) :
    iprop((Pipeline.scopedRest (Ix := Unit) (Name := ℕ) (U := UR sig nD τ) (Lvl := ℕ) (Val := Elt F) spec1 c : sProp 𝕄) ∗ emp) ⊢ inv1 W c 0 := by
  rw [scopedRest1_split]; unfold inv1; simp only [owns_whole_eq]
  iintro ⟨⟨⟨%f, H⟩, Hr⟩, -⟩
  isplitl [H]
  · iexists f; isplitr; · ipureintro; exact fun h => absurd rfl h
    iexists f; isplitr; · ipureintro; rfl
    iexact H
  iexact Hr

/-- and the invariant gives them back. -/
theorem leave1 (c : Dev nD) (n : ℕ) :
    inv1 W c n ⊢ iprop((Pipeline.scopedRest (Ix := Unit) (Name := ℕ) (U := UR sig nD τ) (Lvl := ℕ) (Val := Elt F) spec1 c : sProp 𝕄) ∗ emp) := by
  rw [scopedRest1_split]; unfold inv1; simp only [owns_whole_eq]
  iintro ⟨⟨%d, -, %f, -, H⟩, Hr⟩
  isplitl [H Hr]
  · isplitl [H]
    · iexists f; iexact H
    iexact Hr
  iempintro

end

end Cert.KernelIdeal.Run

end
-- ==== Proof.IdealBody2.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Tactic
public import Idealize.ShloMosaic.Lib.WordCmp
public import Idealize.ShloMosaic.Lib.VecWindow
public import Idealize.ShloMosaic.Lib.Pipeline.ValueKit.Acc
public import Idealize.ShloMosaic.Lib.Pipeline.FrameBody
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition under which the body resets its accumulator, from the grid coordinates. -/
abbrev first2 (i : grid2.Coords) : Prop := (Scalar.cmpi .ne (Scalar.extui (Scalar.cmpi .eq (BitVec.ofNat 32 (i 0).val) 0#32)) 0#32) = 1#1
/-- The condition under which the body stores its result. -/
abbrev last2 (i : grid2.Coords) : Prop := k2_cond2 i = 1#1

/-- The reset happens at the first point only. -/
theorem first2_iff : ∀ t : Fin cfg2.N, first2 (grid2.coords t) ↔ t.val % 5 = 0 :=
  (fun t => by
    have ht : t.val < 5 := Nat.lt_of_lt_of_eq t.isLt N_2
    have e0 : (grid2.coords t 0).val = t.val / 1 % 5 := Pipeline.Grid.coords_val t 0 (by decide) rfl
    simp only [first2, e0]
    word_cmp
   : ∀ t : Fin grid2.N, first2 (grid2.coords t) ↔ t.val % 5 = 0)

/-- The result is stored at the last point only. -/
theorem last2_iff : ∀ t : Fin cfg2.N, last2 (grid2.coords t) ↔ t.val % 5 = 4 :=
  (fun t => by
    have ht : t.val < 5 := Nat.lt_of_lt_of_eq t.isLt N_2
    have e0 : (grid2.coords t 0).val = t.val / 1 % 5 := Pipeline.Grid.coords_val t 0 (by decide) rfl
    simp only [last2, k2_cond2, e0]
    word_cmp
   : ∀ t : Fin grid2.N, last2 (grid2.coords t) ↔ t.val % 5 = 4)

/-- The unpacked block times the hyperedge features. -/
def msg2 (w : Vec F S2000x128 .i32) (x2 : Vec F S4096x128 .bf16) : Vec F S2000x128 .f32 :=
  k2_pay33 (k2_pay4 w) (k2_pay5 w) (k2_pay6 w) (k2_pay7 w) (k2_pay8 w) (k2_pay9 w) (k2_pay10 w) (k2_pay11 w) (k2_pay13 (k2_pay12 w)) (k2_pay14 (k2_pay4 w)) (k2_pay15 (k2_pay4 w)) (k2_pay16 (k2_pay4 w)) (k2_pay17 (k2_pay4 w)) (k2_pay18 (k2_pay4 w)) (k2_pay19 (k2_pay4 w)) (k2_pay20 (k2_pay4 w)) (k2_pay21 (k2_pay4 w)) (k2_pay23 (k2_pay22 (k2_pay4 w))) (k2_pay24 (k2_pay4 w)) (k2_pay25 (k2_pay4 w)) (k2_pay26 (k2_pay4 w)) (k2_pay27 (k2_pay4 w)) (k2_pay28 (k2_pay4 w)) (k2_pay29 (k2_pay4 w)) (k2_pay30 (k2_pay4 w)) (k2_pay31 (k2_pay4 w)) x2

/-- The pooled sums after a point that found them at `s`, reset first when `z`: the column sums of the block of the third
    layer's node features are added. -/
def acc2 (z : Prop) [Decidable z] (w : Vec F S2000x128 .i32) (x1 : Vec F S2000x128 .f32) (x2 : Vec F S4096x128 .bf16) (x3 : Vec F S128x256 .f32) (x4 : Vec F S1x256 .f32) (x5 : Vec F S256x128 .f32) (x6 : Vec F S1x128 .f32) (s : Vec F S1x128 .f32) : Vec F S1x128 .f32 :=
  k2_pay2 (k2_pay32 x1) (msg2 w x2) x3 x4 x5 x6 (if z then k2_pay1 (F := F) else s)

/-- What the last point stores: the logistic function of the pooled mean through the output layer. -/
abbrev fin2 (s : Vec F S1x128 .f32) (x7 : Vec F S128x1 .f32) (x8 : Vec F S1x1 .f32) : Vec F S1x1 .f32 := k2_pay3 s x7 x8

set_option maxHeartbeats 3000000 in
/-- The kernel body of custom call 2 on any whole staging memrefs: the inputs stay, each output stored at every point gets
    its block, the accumulator its update, and the last point stores the result. -/
theorem body2 (c : Dev nD) (i : grid2.Coords) (arg1 : Memref sig .tc .vmem S2000x128 .i32) (harg1 : arg1.IsWhole) (arg2 : Memref sig .tc .vmem S2000x128 .f32) (harg2 : arg2.IsWhole) (arg3 : Memref sig .tc .vmem S4096x128 .bf16) (harg3 : arg3.IsWhole) (arg4 : Memref sig .tc .vmem S128x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x128 .f32) (harg11 : arg11.IsWhole)
    (x0 : Vec F S2000x128 .i32) (x1 : Vec F S2000x128 .f32) (x2 : Vec F S4096x128 .bf16) (x3 : Vec F S128x256 .f32) (x4 : Vec F S1x256 .f32) (x5 : Vec F S256x128 .f32) (x6 : Vec F S1x128 .f32) (x7 : Vec F S128x1 .f32) (x8 : Vec F S1x1 .f32) (o : Vec F S1x1 .f32) (s : Vec F S1x128 .f32) (hx : first2 i → ¬ last2 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare o ∗ owns (c : Thread nD τ) arg11 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (if last2 i then fin2 (acc2 (first2 i) x0 x1 x2 x3 x4 x5 x6 s) x7 x8 else o) ∗ owns (c : Thread nD τ) arg11 fullShare (acc2 (first2 i) x0 x1 x2 x3 x4 x5 x6 s)) -∗ K ⟨⟩))
      ⊢ wp frame (wpE (defs₀ (F := F)) Variants.none c none) E (cc2__pass3_body i arg1 harg1 arg2 harg2 arg3 harg3 arg4 harg4 arg5 harg5 arg6 harg6 arg7 harg7 arg8 harg8 arg9 harg9 arg10 harg10 arg11 harg11) K := by
  by_cases hc0 : first2 i <;> by_cases hc1 : last2 i
  · exact absurd hc1 (hx hc0)
  all_goals
    simp only [cc2__pass3_body_eq_skeleton]; unfold cc2__pass3_body_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr
      swap; · iexact H9
      ipureintro
      sl_unfold_words
      first
        | (rw [if_neg hc1]; exact harg10.read_unread _)
        | (rw [if_pos hc1]
           refine (View.read_writes_full _ _ _ _ _).trans ?_
           simp (discharger := decide) only [View.readAt_eq_ld, harg1.read_unread, harg2.read_unread, harg3.read_unread, harg4.read_unread, harg5.read_unread, harg6.read_unread, harg7.read_unread, harg8.read_unread, harg9.read_unread, harg11.read_unread, View.ld_unit_lit, View.readCov_unit_lit, msg2, acc2, fin2]
           first | rw [if_pos hc0] | rw [if_neg hc0])
    · iexists _; isplitr
      swap; · iexact HS
      ipureintro
      sl_unfold_words
      refine (View.read_writes_full _ _ _ _ _).trans ?_
      simp (discharger := decide) only [View.readAt_eq_ld, harg1.read_unread, harg2.read_unread, harg3.read_unread, harg4.read_unread, harg5.read_unread, harg6.read_unread, harg7.read_unread, harg8.read_unread, harg9.read_unread, harg11.read_unread, View.ld_unit_lit, View.readCov_unit_lit, msg2, acc2, fin2]
      first | rw [if_pos hc0] | rw [if_neg hc0]

end Cert.KernelIdeal.Run

end
-- ==== Proof.IdealRegion2.lean ====
module

public import proofs.«01_k».proof.Proof.IdealBody2
public import proofs.«01_k».proof.Proof.Gen.KernelIdeal.Launch

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of core `c`'s buffers when the region is entered, by reference. -/
abbrev at2 (W : Dev nD → Valuation τ sig (Elt F)) (c : Dev nD) (b : Ref sig .tc) : Buf (Elt F) ((c : Thread nD τ).loc b) := W c (Proc.devRef .tc b)

/-- Window `w`'s block at point `t`, read off its array as the region finds it. -/
def blk2 (W : Dev nD → Valuation τ sig (Elt F)) (c : Dev nD) (w : Fin cfg2.W) (t : Fin cfg2.N) : ((cfg2.win w).xblock (cfg2.grid.coords t)).Idx → Elt F (cfg2.win w).elt :=
  ((cfg2.win w).blk t).view.read (Elt F) (at2 W c (Pipeline.arrRef spec2 w))

/-- The accumulator after the first `n` points. -/
def scr2 (W : Dev nD → Valuation τ sig (Elt F)) (c : Dev nD) : ℕ → Vec F S1x128 .f32
  | 0 => k2_pay1
  | n + 1 => if h : n < cfg2.N then acc2 (first2 (grid2.coords ⟨n, h⟩)) (blk2 W c 0 ⟨n, h⟩) (blk2 W c 1 ⟨n, h⟩) (blk2 W c 2 ⟨n, h⟩) (blk2 W c 3 ⟨n, h⟩) (blk2 W c 4 ⟨n, h⟩) (blk2 W c 5 ⟨n, h⟩) (blk2 W c 6 ⟨n, h⟩) (scr2 W c n) else scr2 W c n

/-- The invariant before point `t`: the accumulator holds the fold over the points before (anything before the first), and
    the remaining scoped buffers hold anything. -/
def inv2 (W : Dev nD → Valuation τ sig (Elt F)) (c : Dev nD) (n : ℕ) : sProp 𝕄 :=
  iprop((∃ d, ⌜n ≠ 0 → d = scr2 W c n⌝ ∗ owns (c : Thread nD τ) (Memref.whole cc2_scratch0) fullShare d)
    ∗ Pipeline.scopedRestBut (Ix := Unit) (Name := ℕ) (U := UR sig nD τ) (Lvl := ℕ) (Val := Elt F) spec2 c [cc2_scratch0])

/-- The pipeline's proof data over the contents `W` the region is entered at. -/
def dat2 (W : Dev nD → Valuation τ sig (Elt F)) (c : Dev nD) : Dat τ (Elt F) Unit ℕ (UR sig nD τ) ℕ cfg2 c where
  A w := at2 W c (Pipeline.arrRef spec2 w)
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => blk2 W c 7 t
    | ⟨8, _⟩ => blk2 W c 8 t
    | ⟨9, _⟩ => fin2 (scr2 W c (t.val + 1)) (blk2 W c 7 t) (blk2 W c 8 t)
  Φ t := inv2 W c t.val
  q _ := fullShare
  owed _ := 0

section
variable (W : Dev nD → Valuation τ sig (Elt F))

/-- The arrays are entered at the region's contents. -/
theorem A2 (c : Dev nD) (w : Fin cfg2.W) : (dat2 W c).A w = at2 W c (Pipeline.arrRef spec2 w) := by
  dsimp only [dat2]

/-- A point leaves input window 0 at its block. -/
theorem after2_0 (c : Dev nD) (t : Fin cfg2.N) : (dat2 W c).after 0 t = blk2 W c 0 t := by dsimp only [dat2]
/-- A point leaves input window 1 at its block. -/
theorem after2_1 (c : Dev nD) (t : Fin cfg2.N) : (dat2 W c).after 1 t = blk2 W c 1 t := by dsimp only [dat2]
/-- A point leaves input window 2 at its block. -/
theorem after2_2 (c : Dev nD) (t : Fin cfg2.N) : (dat2 W c).after 2 t = blk2 W c 2 t := by dsimp only [dat2]
/-- A point leaves input window 3 at its block. -/
theorem after2_3 (c : Dev nD) (t : Fin cfg2.N) : (dat2 W c).after 3 t = blk2 W c 3 t := by dsimp only [dat2]
/-- A point leaves input window 4 at its block. -/
theorem after2_4 (c : Dev nD) (t : Fin cfg2.N) : (dat2 W c).after 4 t = blk2 W c 4 t := by dsimp only [dat2]
/-- A point leaves input window 5 at its block. -/
theorem after2_5 (c : Dev nD) (t : Fin cfg2.N) : (dat2 W c).after 5 t = blk2 W c 5 t := by dsimp only [dat2]
/-- A point leaves input window 6 at its block. -/
theorem after2_6 (c : Dev nD) (t : Fin cfg2.N) : (dat2 W c).after 6 t = blk2 W c 6 t := by dsimp only [dat2]
/-- A point leaves input window 7 at its block. -/
theorem after2_7 (c : Dev nD) (t : Fin cfg2.N) : (dat2 W c).after 7 t = blk2 W c 7 t := by dsimp only [dat2]
/-- A point leaves input window 8 at its block. -/
theorem after2_8 (c : Dev nD) (t : Fin cfg2.N) : (dat2 W c).after 8 t = blk2 W c 8 t := by dsimp only [dat2]
/-- What a point leaves in output window 9. -/
theorem after2_9 (c : Dev nD) (t : Fin cfg2.N) : (dat2 W c).after 9 t = fin2 (scr2 W c (t.val + 1)) (blk2 W c 7 t) (blk2 W c 8 t) := by dsimp only [dat2]

/-- Input window 0's staging buffer holds its block at every point. -/
theorem before2_0 (c : Dev nD) (t : Fin cfg2.N) (d) : (dat2 W c).before 0 t d = blk2 W c 0 t :=
  ((dat2 W c).before_in_eq_fetched 0 rfl (fun _ => rfl) (fun _ _ _ => rfl) (fun t => by rw [after2_0]; unfold Dat.blockOf blk2; rw [A2]; try rfl) t d).trans
    (by unfold Dat.fetched Dat.blockOf blk2; rw [A2]; try rfl)
/-- Input window 1's staging buffer holds its block at every point. -/
theorem before2_1 (c : Dev nD) (t : Fin cfg2.N) (d) : (dat2 W c).before 1 t d = blk2 W c 1 t :=
  ((dat2 W c).before_in_eq_fetched 1 rfl (fun _ => rfl) (fun _ _ _ => rfl) (fun t => by rw [after2_1]; unfold Dat.blockOf blk2; rw [A2]; try rfl) t d).trans
    (by unfold Dat.fetched Dat.blockOf blk2; rw [A2]; try rfl)
/-- Input window 2's staging buffer holds its block at every point. -/
theorem before2_2 (c : Dev nD) (t : Fin cfg2.N) (d) : (dat2 W c).before 2 t d = blk2 W c 2 t :=
  ((dat2 W c).before_in_eq_fetched 2 rfl (fun _ => rfl) (fun _ _ _ => rfl) (fun t => by rw [after2_2]; unfold Dat.blockOf blk2; rw [A2]; try rfl) t d).trans
    (by unfold Dat.fetched Dat.blockOf blk2; rw [A2]; try rfl)
/-- Input window 3's staging buffer holds its block at every point. -/
theorem before2_3 (c : Dev nD) (t : Fin cfg2.N) (d) : (dat2 W c).before 3 t d = blk2 W c 3 t :=
  ((dat2 W c).before_in_eq_fetched 3 rfl (fun _ => rfl) (fun _ _ _ => rfl) (fun t => by rw [after2_3]; unfold Dat.blockOf blk2; rw [A2]; try rfl) t d).trans
    (by unfold Dat.fetched Dat.blockOf blk2; rw [A2]; try rfl)
/-- Input window 4's staging buffer holds its block at every point. -/
theorem before2_4 (c : Dev nD) (t : Fin cfg2.N) (d) : (dat2 W c).before 4 t d = blk2 W c 4 t :=
  ((dat2 W c).before_in_eq_fetched 4 rfl (fun _ => rfl) (fun _ _ _ => rfl) (fun t => by rw [after2_4]; unfold Dat.blockOf blk2; rw [A2]; try rfl) t d).trans
    (by unfold Dat.fetched Dat.blockOf blk2; rw [A2]; try rfl)
/-- Input window 5's staging buffer holds its block at every point. -/
theorem before2_5 (c : Dev nD) (t : Fin cfg2.N) (d) : (dat2 W c).before 5 t d = blk2 W c 5 t :=
  ((dat2 W c).before_in_eq_fetched 5 rfl (fun _ => rfl) (fun _ _ _ => rfl) (fun t => by rw [after2_5]; unfold Dat.blockOf blk2; rw [A2]; try rfl) t d).trans
    (by unfold Dat.fetched Dat.blockOf blk2; rw [A2]; try rfl)
/-- Input window 6's staging buffer holds its block at every point. -/
theorem before2_6 (c : Dev nD) (t : Fin cfg2.N) (d) : (dat2 W c).before 6 t d = blk2 W c 6 t :=
  ((dat2 W c).before_in_eq_fetched 6 rfl (fun _ => rfl) (fun _ _ _ => rfl) (fun t => by rw [after2_6]; unfold Dat.blockOf blk2; rw [A2]; try rfl) t d).trans
    (by unfold Dat.fetched Dat.blockOf blk2; rw [A2]; try rfl)
/-- Input window 7's staging buffer holds its block at every point. -/
theorem before2_7 (c : Dev nD) (t : Fin cfg2.N) (d) : (dat2 W c).before 7 t d = blk2 W c 7 t :=
  ((dat2 W c).before_in_eq_fetched 7 rfl (fun _ => rfl) (fun _ _ _ => rfl) (fun t => by rw [after2_7]; unfold Dat.blockOf blk2; rw [A2]; try rfl) t d).trans
    (by unfold Dat.fetched Dat.blockOf blk2; rw [A2]; try rfl)
/-- Input window 8's staging buffer holds its block at every point. -/
theorem before2_8 (c : Dev nD) (t : Fin cfg2.N) (d) : (dat2 W c).before 8 t d = blk2 W c 8 t :=
  ((dat2 W c).before_in_eq_fetched 8 rfl (fun _ => rfl) (fun _ _ _ => rfl) (fun t => by rw [after2_8]; unfold Dat.blockOf blk2; rw [A2]; try rfl) t d).trans
    (by unfold Dat.fetched Dat.blockOf blk2; rw [A2]; try rfl)

/-- Away from the last point the result's window is idle and not written back. -/
theorem idle2 : ∀ t : Fin cfg2.N, ¬ last2 (grid2.coords t) → cfg2.idle 9 (grid2.coords t) = true ∧ (cfg2.win 9).flush t = false := by decide +kernel
/-- At the last point it is live. -/
theorem live2 : ∀ t : Fin cfg2.N, last2 (grid2.coords t) → cfg2.idle 9 (grid2.coords t) = false := by decide +kernel
/-- No point is both the first and the last. -/
theorem apart2 (t : Fin cfg2.N) (h : first2 (grid2.coords t)) : ¬ last2 (grid2.coords t) := fun h' => by
  have h0 := (first2_iff t).mp h; have h1 := (last2_iff t).mp h'; omega

/-- The fold's step: a point's update of what it finds, which at the first point may be anything. -/
theorem scr2_step (c : Dev nD) (t : Fin cfg2.N) (d : Vec F S1x128 .f32) (hd : t.val ≠ 0 → d = scr2 W c t.val) :
    acc2 (first2 (grid2.coords t)) (blk2 W c 0 t) (blk2 W c 1 t) (blk2 W c 2 t) (blk2 W c 3 t) (blk2 W c 4 t) (blk2 W c 5 t) (blk2 W c 6 t) d = scr2 W c (t.val + 1) := by
  rw [scr2, dif_pos t.isLt]
  by_cases h : t.val = 0
  · have hf : first2 (grid2.coords t) := (first2_iff t).mpr (by rw [h])
    unfold acc2; simp only [if_pos hf]
  · rw [hd h]

set_option maxHeartbeats 1000000 in
/-- The body at point `t`, from the staging buffers as the pipeline hands them to what it takes back. -/
theorem sound2 (c : Dev nD) (t : Fin cfg2.N) :
    iprop((dat2 W c).Φ t.castSucc ∗ (dat2 W c).owesAt () t.castSucc
        ∗ (∃ d, owns (c : Thread nD τ) (win2_0.stage (cfg2.slots t 0)) fullShare ((dat2 W c).before 0 t d)) ∗ (∃ d, owns (c : Thread nD τ) (win2_1.stage (cfg2.slots t 1)) fullShare ((dat2 W c).before 1 t d)) ∗ (∃ d, owns (c : Thread nD τ) (win2_2.stage (cfg2.slots t 2)) fullShare ((dat2 W c).before 2 t d)) ∗ (∃ d, owns (c : Thread nD τ) (win2_3.stage (cfg2.slots t 3)) fullShare ((dat2 W c).before 3 t d)) ∗ (∃ d, owns (c : Thread nD τ) (win2_4.stage (cfg2.slots t 4)) fullShare ((dat2 W c).before 4 t d)) ∗ (∃ d, owns (c : Thread nD τ) (win2_5.stage (cfg2.slots t 5)) fullShare ((dat2 W c).before 5 t d)) ∗ (∃ d, owns (c : Thread nD τ) (win2_6.stage (cfg2.slots t 6)) fullShare ((dat2 W c).before 6 t d)) ∗ (∃ d, owns (c : Thread nD τ) (win2_7.stage (cfg2.slots t 7)) fullShare ((dat2 W c).before 7 t d)) ∗ (∃ d, owns (c : Thread nD τ) (win2_8.stage (cfg2.slots t 8)) fullShare ((dat2 W c).before 8 t d)) ∗ (∃ d, owns (c : Thread nD τ) (win2_9.stage (cfg2.slots t 9)) fullShare ((dat2 W c).before 9 t d)))
      ⊢ wp frame (wpE (defs₀ (F := F)) Variants.none c none) Set.univ (bodyAt2 t) (fun _ =>
        iprop((dat2 W c).Φ t.succ ∗ (dat2 W c).owesAt () t.succ ∗ (dat2 W c).leavesExact 0 t ∗ (dat2 W c).leavesExact 1 t ∗ (dat2 W c).leavesExact 2 t ∗ (dat2 W c).leavesExact 3 t ∗ (dat2 W c).leavesExact 4 t ∗ (dat2 W c).leavesExact 5 t ∗ (dat2 W c).leavesExact 6 t ∗ (dat2 W c).leavesExact 7 t ∗ (dat2 W c).leavesExact 8 t ∗ (dat2 W c).leavesExact 9 t)) := by
  unfold bodyAt2
  simp only [before2_0, before2_1, before2_2, before2_3, before2_4, before2_5, before2_6, before2_7, before2_8]
  rw [show (dat2 W c).owesAt () t.succ = (dat2 W c).owesAt () t.castSucc from rfl,
    show (dat2 W c).Φ t.succ = inv2 W c (t.val + 1) from rfl, show (dat2 W c).Φ t.castSucc = inv2 W c t.val from rfl]
  rw [show (dat2 W c).leavesExact 0 t = owns (c : Thread nD τ) (win2_0.stage (cfg2.slots t 0)) fullShare ((dat2 W c).after 0 t) from by
    unfold Dat.leavesExact; rw [show cfg2.idle 0 (grid2.coords t) = false from rfl], after2_0]
  rw [show (dat2 W c).leavesExact 1 t = owns (c : Thread nD τ) (win2_1.stage (cfg2.slots t 1)) fullShare ((dat2 W c).after 1 t) from by
    unfold Dat.leavesExact; rw [show cfg2.idle 1 (grid2.coords t) = false from rfl], after2_1]
  rw [show (dat2 W c).leavesExact 2 t = owns (c : Thread nD τ) (win2_2.stage (cfg2.slots t 2)) fullShare ((dat2 W c).after 2 t) from by
    unfold Dat.leavesExact; rw [show cfg2.idle 2 (grid2.coords t) = false from rfl], after2_2]
  rw [show (dat2 W c).leavesExact 3 t = owns (c : Thread nD τ) (win2_3.stage (cfg2.slots t 3)) fullShare ((dat2 W c).after 3 t) from by
    unfold Dat.leavesExact; rw [show cfg2.idle 3 (grid2.coords t) = false from rfl], after2_3]
  rw [show (dat2 W c).leavesExact 4 t = owns (c : Thread nD τ) (win2_4.stage (cfg2.slots t 4)) fullShare ((dat2 W c).after 4 t) from by
    unfold Dat.leavesExact; rw [show cfg2.idle 4 (grid2.coords t) = false from rfl], after2_4]
  rw [show (dat2 W c).leavesExact 5 t = owns (c : Thread nD τ) (win2_5.stage (cfg2.slots t 5)) fullShare ((dat2 W c).after 5 t) from by
    unfold Dat.leavesExact; rw [show cfg2.idle 5 (grid2.coords t) = false from rfl], after2_5]
  rw [show (dat2 W c).leavesExact 6 t = owns (c : Thread nD τ) (win2_6.stage (cfg2.slots t 6)) fullShare ((dat2 W c).after 6 t) from by
    unfold Dat.leavesExact; rw [show cfg2.idle 6 (grid2.coords t) = false from rfl], after2_6]
  rw [show (dat2 W c).leavesExact 7 t = owns (c : Thread nD τ) (win2_7.stage (cfg2.slots t 7)) fullShare ((dat2 W c).after 7 t) from by
    unfold Dat.leavesExact; rw [show cfg2.idle 7 (grid2.coords t) = false from rfl], after2_7]
  rw [show (dat2 W c).leavesExact 8 t = owns (c : Thread nD τ) (win2_8.stage (cfg2.slots t 8)) fullShare ((dat2 W c).after 8 t) from by
    unfold Dat.leavesExact; rw [show cfg2.idle 8 (grid2.coords t) = false from rfl], after2_8]
  unfold inv2
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body2 c (grid2.coords t) _ _ _ _ _ _ _ _ _ _ _ _ _ _ _ _ _ _ _ _ _ _ (blk2 W c 0 t) (blk2 W c 1 t) (blk2 W c 2 t) (blk2 W c 3 t) (blk2 W c 4 t) (blk2 W c 5 t) (blk2 W c 6 t) (blk2 W c 7 t) (blk2 W c 8 t) _ ds (apart2 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  rw [scr2_step W c t ds hds]
  iintro ⟨H0, H1, H2, H3, H4, H5, H6, H7, H8, H9, HS⟩
  isplitl [HS Hg]
  · isplitl [HS]
    · iexists _; isplitr; · ipureintro; exact fun _ => rfl
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases hl : last2 (grid2.coords t)
  · rw [if_pos hl, show (dat2 W c).leavesExact 9 t = owns (c : Thread nD τ) (win2_9.stage (cfg2.slots t 9)) fullShare ((dat2 W c).after 9 t) from by
      unfold Dat.leavesExact; rw [live2 t hl], after2_9]
    iexact H9
  · rw [if_neg hl, Dat.leavesExact_idle (dat2 W c) 9 t (idle2 t hl).1 (idle2 t hl).2]
    iexists _; iexact H9

/-- The body table's row at point `t`'s slots is the body at the point. -/
theorem row2 (t : Fin cfg2.N) : defs₀ (F := F) .tc cfg2.body (cfg2.bodyArgs t (cfg2.slots t)) = bodyAt2 t := by
  unfold defs₀; rw [Defs.onTc_tc]

/-- The pipeline's body obligation. -/
theorem obligation2 (c : Dev nD) : BodyObligation (dat2 W c) (defs₀ (F := F)) Variants.none () Set.univ := fun t => by
  rw [bigSep_W2, bigSep_W2, row2]
  exact triple_restated (sound2 W c t) rfl .rfl fun _ => .rfl

/-- The scoped buffers no window stages give the invariant before the first point, -/
theorem enter2 (c : Dev nD) :
    iprop((Pipeline.scopedRest (Ix := Unit) (Name := ℕ) (U := UR sig nD τ) (Lvl := ℕ) (Val := Elt F) spec2 c : sProp 𝕄) ∗ emp) ⊢ inv2 W c 0 := by
  rw [scopedRest2_split]; unfold inv2; simp only [owns_whole_eq]
  iintro ⟨⟨⟨%f, H⟩, Hr⟩, -⟩
  isplitl [H]
  · iexists f; isplitr; · ipureintro; exact fun h => absurd rfl h
    iexists f; isplitr; · ipureintro; rfl
    iexact H
  iexact Hr

/-- and the invariant gives them back. -/
theorem leave2 (c : Dev nD) (n : ℕ) :
    inv2 W c n ⊢ iprop((Pipeline.scopedRest (Ix := Unit) (Name := ℕ) (U := UR sig nD τ) (Lvl := ℕ) (Val := Elt F) spec2 c : sProp 𝕄) ∗ emp) := by
  rw [scopedRest2_split]; unfold inv2; simp only [owns_whole_eq]
  iintro ⟨⟨%d, -, %f, -, H⟩, Hr⟩
  isplitl [H Hr]
  · isplitl [H]
    · iexists f; iexact H
    iexact Hr
  iempintro

end

end Cert.KernelIdeal.Run

end
-- ==== Proof.IdealLaunch.lean ====
module

public import proofs.«01_k».proof.Proof.IdealRegion0
public import proofs.«01_k».proof.Proof.IdealRegion1
public import proofs.«01_k».proof.Proof.IdealRegion2
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- Core `c`'s buffers when the first region is entered: the host reshapes have run. -/
def W0 (c : Dev nD) : Valuation τ sig (Elt F) := StableHlo.after hostOps0 fun b => m (c, b)
/-- After the first region. -/
def W1 (c : Dev nD) : Valuation τ sig (Elt F) := Pipeline.afterRegion (dat0 (W0 m) c) (W0 m c)
/-- After the second region. -/
def W2 (c : Dev nD) : Valuation τ sig (Elt F) := Pipeline.afterRegion (dat1 (W1 m) c) (W1 m c)
/-- After the third region. -/
def W3 (c : Dev nD) : Valuation τ sig (Elt F) := Pipeline.afterRegion (dat2 (W2 m) c) (W2 m c)
/-- At the end: the host reshape of the result has run. -/
def W4 (c : Dev nD) : Valuation τ sig (Elt F) := StableHlo.after hostOps3 (W3 m c)

/-- A buffer that the host operations before the regions do not write holds what it was launched with. -/
theorem W0_of (c : Dev nD) (r : Ref sig .tc) (h : r ∉ hostOps0_W) : W0 m c (Proc.devRef .tc r) = m ((c : Thread nD τ).loc r) :=
  StableHlo.after_of_writes_sub hostOps0 _ hostOps0_writes h
/-- The first region leaves every buffer that is no output of its. -/
theorem W1_of (c : Dev nD) (r : Ref sig .tc) (h : ∀ w, Pipeline.arrRef spec0 w = r → (cfg0.win w).isOut = false) :
    W1 m c (Proc.devRef .tc r) = W0 m c (Proc.devRef .tc r) :=
  Pipeline.afterRegion_keeps (dat0 (W0 m) c) (W0 m c) winFacts0.arr_inj (A0 (W0 m) c) r h
/-- The first region leaves in each of its arrays what its points wrote back. -/
theorem W1_arr (c : Dev nD) (w : Fin cfg0.W) : W1 m c (Proc.devRef .tc (Pipeline.arrRef spec0 w)) = (dat0 (W0 m) c).arrAt w cfg0.N :=
  Pipeline.afterRegion_arr (dat0 (W0 m) c) (W0 m c) winFacts0.arr_inj w
/-- The second region leaves every buffer that is no output of its. -/
theorem W2_of (c : Dev nD) (r : Ref sig .tc) (h : ∀ w, Pipeline.arrRef spec1 w = r → (cfg1.win w).isOut = false) :
    W2 m c (Proc.devRef .tc r) = W1 m c (Proc.devRef .tc r) :=
  Pipeline.afterRegion_keeps (dat1 (W1 m) c) (W1 m c) winFacts1.arr_inj (A1 (W1 m) c) r h
/-- The second region leaves in each of its arrays what its points wrote back. -/
theorem W2_arr (c : Dev nD) (w : Fin cfg1.W) : W2 m c (Proc.devRef .tc (Pipeline.arrRef spec1 w)) = (dat1 (W1 m) c).arrAt w cfg1.N :=
  Pipeline.afterRegion_arr (dat1 (W1 m) c) (W1 m c) winFacts1.arr_inj w
/-- The third region leaves every buffer that is no output of its. -/
theorem W3_of (c : Dev nD) (r : Ref sig .tc) (h : ∀ w, Pipeline.arrRef spec2 w = r → (cfg2.win w).isOut = false) :
    W3 m c (Proc.devRef .tc r) = W2 m c (Proc.devRef .tc r) :=
  Pipeline.afterRegion_keeps (dat2 (W2 m) c) (W2 m c) winFacts2.arr_inj (A2 (W2 m) c) r h
/-- The third region leaves in each of its arrays what its points wrote back. -/
theorem W3_arr (c : Dev nD) (w : Fin cfg2.W) : W3 m c (Proc.devRef .tc (Pipeline.arrRef spec2 w)) = (dat2 (W2 m) c).arrAt w cfg2.N :=
  Pipeline.afterRegion_arr (dat2 (W2 m) c) (W2 m c) winFacts2.arr_inj w
/-- The last host operation leaves the buffers that it does not write. -/
theorem W4_of (c : Dev nD) (r : Ref sig .tc) (h : r ∉ hostOps3_W) : W4 m c (Proc.devRef .tc r) = W3 m c (Proc.devRef .tc r) :=
  StableHlo.after_of_writes_sub hostOps3 _ hostOps3_writes h

/-! ## The regions as segments -/

/-- The proof data of the three pipelines. -/
def pd : (p : Fin 3) → (c : Dev nD) → Dat τ (Elt F) Unit ℕ (UR sig nD τ) ℕ (cfgs p) c
  | ⟨0, _⟩, c => dat0 (W0 m) c
  | ⟨1, _⟩, c => dat1 (W1 m) c
  | ⟨2, _⟩, c => dat2 (W2 m) c

/-- The staging waits' index is assigned at every cell of a TensorCore. -/
def lev (g : GSem nD τ sig) : Finset Unit := if g.1.2 = .tc then {()} else ∅
/-- Every level is zero. -/
abbrev lv0 : GSem nD τ sig → Unit → ℕ := fun _ _ => 0

/-- No region waits on another: the levels and the amounts owed are all zero. -/
theorem cut (p : Fin 3) : Pipeline.LevelCut (pcfgs (F := F)) adm () lev lv0 p (fun _ => 0) (fun _ => 0) where
  hι c w s := by unfold lev; rw [if_pos rfl]; exact Finset.mem_singleton_self _
  hιb _ _ _ := le_refl _
  hD _ _ _ h := absurd h (lt_irrefl _)

/-- What rides beside the buffers: the core owes nothing. -/
abbrev rest (c : Dev nD) : sProp 𝕄 := iprop((∃ Wd, owes (c : Thread nD τ) (0 : CellTallies nD τ sig Unit) Wd) ∗ emp ∗ emp)

set_option backward.isDefEq.respectTransparency.types false in
/-- Region 0, entered from the buffers at `W0` and left with them at `W1`. -/
def reg0 : RegionSeg (pcfgs (F := F)) adm (pd m) () defs₀ Variants.none lev lv0 0 :=
  RegionSeg.ofHeldIn (pcfgs (F := F)) adm (pd m) () defs₀ Variants.none lev lv0 0 (fun _ => 0) (Pipeline.ucRefs τ sig)
    (fun _ => iprop(emp)) (fun _ => iprop(emp)) launch0.toP rfl (fun c => (obligation0 (W0 m) c).loose) (fun _ _ => rfl) (fun _ => rfl)
    (fun c => (dat0 (W0 m) c).share_full fun _ => rfl) (fun c => enter0 (W0 m) c) (fun c => leave0 (W0 m) c _) (fun _ => 0) (cut 0)
    (fun _ => iprop(emp)) (W0 m) (fun c w => A0 (W0 m) c w)

set_option backward.isDefEq.respectTransparency.types false in
/-- The first region may be entered from the buffers at the contents before it. -/
theorem reg0_pre (c : Dev nD) : iprop(StableHlo.held (c.tc : Thread nD τ) (Pipeline.ucRefs τ sig) (W0 m c) ∗ rest c) ⊢ (reg0 m).pre c :=
  RegionSeg.ofHeldIn_pre (pcs := pcfgs (F := F)) (a := adm) (pdats := pd m) (ι := ()) (defs₀ := defs₀) (𝒱₀ := Variants.none) (L := lev) (lv := lv0) (p := 0) (D := fun _ => 0) (S := Pipeline.ucRefs τ sig)
    (X := fun _ => iprop(emp)) (Y := fun _ => iprop(emp)) (R := fun _ => iprop(emp)) (W := W0 m) (b := fun _ => 0) (Pipeline.arrRefs_sub_ucRefs (τ := τ) spec0 winFacts0.arr_unscoped) c
set_option backward.isDefEq.respectTransparency.types false in
/-- The first region hands back the buffers at the contents after it. -/
theorem reg0_post (c : Dev nD) : (reg0 m).post c ⊢ iprop(StableHlo.held (c.tc : Thread nD τ) (Pipeline.ucRefs τ sig) (W1 m c) ∗ rest c) :=
  RegionSeg.ofHeldIn_post (pcs := pcfgs (F := F)) (a := adm) (pdats := pd m) (ι := ()) (defs₀ := defs₀) (𝒱₀ := Variants.none) (L := lev) (lv := lv0) (p := 0) (D := fun _ => 0) (S := Pipeline.ucRefs τ sig)
    (X := fun _ => iprop(emp)) (Y := fun _ => iprop(emp)) (R := fun _ => iprop(emp)) (W := W0 m) (b := fun _ => 0) (Pipeline.arrRefs_sub_ucRefs (τ := τ) spec0 winFacts0.arr_unscoped) c

set_option backward.isDefEq.respectTransparency.types false in
/-- Region 1, entered from the buffers at `W1` and left with them at `W2`. -/
def reg1 : RegionSeg (pcfgs (F := F)) adm (pd m) () defs₀ Variants.none lev lv0 1 :=
  RegionSeg.ofHeldIn (pcfgs (F := F)) adm (pd m) () defs₀ Variants.none lev lv0 1 (fun _ => 0) (Pipeline.ucRefs τ sig)
    (fun _ => iprop(emp)) (fun _ => iprop(emp)) launch1.toP rfl (fun c => (obligation1 (W1 m) c).loose) (fun _ _ => rfl) (fun _ => rfl)
    (fun c => (dat1 (W1 m) c).share_full fun _ => rfl) (fun c => enter1 (W1 m) c) (fun c => leave1 (W1 m) c _) (fun _ => 0) (cut 1)
    (fun _ => iprop(emp)) (W1 m) (fun c w => A1 (W1 m) c w)

set_option backward.isDefEq.respectTransparency.types false in
/-- The second region may be entered from the buffers at the contents before it. -/
theorem reg1_pre (c : Dev nD) : iprop(StableHlo.held (c.tc : Thread nD τ) (Pipeline.ucRefs τ sig) (W1 m c) ∗ rest c) ⊢ (reg1 m).pre c :=
  RegionSeg.ofHeldIn_pre (pcs := pcfgs (F := F)) (a := adm) (pdats := pd m) (ι := ()) (defs₀ := defs₀) (𝒱₀ := Variants.none) (L := lev) (lv := lv0) (p := 1) (D := fun _ => 0) (S := Pipeline.ucRefs τ sig)
    (X := fun _ => iprop(emp)) (Y := fun _ => iprop(emp)) (R := fun _ => iprop(emp)) (W := W1 m) (b := fun _ => 0) (Pipeline.arrRefs_sub_ucRefs (τ := τ) spec1 winFacts1.arr_unscoped) c
set_option backward.isDefEq.respectTransparency.types false in
/-- The second region hands back the buffers at the contents after it. -/
theorem reg1_post (c : Dev nD) : (reg1 m).post c ⊢ iprop(StableHlo.held (c.tc : Thread nD τ) (Pipeline.ucRefs τ sig) (W2 m c) ∗ rest c) :=
  RegionSeg.ofHeldIn_post (pcs := pcfgs (F := F)) (a := adm) (pdats := pd m) (ι := ()) (defs₀ := defs₀) (𝒱₀ := Variants.none) (L := lev) (lv := lv0) (p := 1) (D := fun _ => 0) (S := Pipeline.ucRefs τ sig)
    (X := fun _ => iprop(emp)) (Y := fun _ => iprop(emp)) (R := fun _ => iprop(emp)) (W := W1 m) (b := fun _ => 0) (Pipeline.arrRefs_sub_ucRefs (τ := τ) spec1 winFacts1.arr_unscoped) c

set_option backward.isDefEq.respectTransparency.types false in
/-- Region 2, entered from the buffers at `W2` and left with them at `W3`. -/
def reg2 : RegionSeg (pcfgs (F := F)) adm (pd m) () defs₀ Variants.none lev lv0 2 :=
  RegionSeg.ofHeldIn (pcfgs (F := F)) adm (pd m) () defs₀ Variants.none lev lv0 2 (fun _ => 0) (Pipeline.ucRefs τ sig)
    (fun _ => iprop(emp)) (fun _ => iprop(emp)) launch2.toP rfl (fun c => (obligation2 (W2 m) c).loose) (fun _ _ => rfl) (fun _ => rfl)
    (fun c => (dat2 (W2 m) c).share_full fun _ => rfl) (fun c => enter2 (W2 m) c) (fun c => leave2 (W2 m) c _) (fun _ => 0) (cut 2)
    (fun _ => iprop(emp)) (W2 m) (fun c w => A2 (W2 m) c w)

set_option backward.isDefEq.respectTransparency.types false in
/-- The third region may be entered from the buffers at the contents before it. -/
theorem reg2_pre (c : Dev nD) : iprop(StableHlo.held (c.tc : Thread nD τ) (Pipeline.ucRefs τ sig) (W2 m c) ∗ rest c) ⊢ (reg2 m).pre c :=
  RegionSeg.ofHeldIn_pre (pcs := pcfgs (F := F)) (a := adm) (pdats := pd m) (ι := ()) (defs₀ := defs₀) (𝒱₀ := Variants.none) (L := lev) (lv := lv0) (p := 2) (D := fun _ => 0) (S := Pipeline.ucRefs τ sig)
    (X := fun _ => iprop(emp)) (Y := fun _ => iprop(emp)) (R := fun _ => iprop(emp)) (W := W2 m) (b := fun _ => 0) (Pipeline.arrRefs_sub_ucRefs (τ := τ) spec2 winFacts2.arr_unscoped) c
set_option backward.isDefEq.respectTransparency.types false in
/-- The third region hands back the buffers at the contents after it. -/
theorem reg2_post (c : Dev nD) : (reg2 m).post c ⊢ iprop(StableHlo.held (c.tc : Thread nD τ) (Pipeline.ucRefs τ sig) (W3 m c) ∗ rest c) :=
  RegionSeg.ofHeldIn_post (pcs := pcfgs (F := F)) (a := adm) (pdats := pd m) (ι := ()) (defs₀ := defs₀) (𝒱₀ := Variants.none) (L := lev) (lv := lv0) (p := 2) (D := fun _ => 0) (S := Pipeline.ucRefs τ sig)
    (X := fun _ => iprop(emp)) (Y := fun _ => iprop(emp)) (R := fun _ => iprop(emp)) (W := W2 m) (b := fun _ => 0) (Pipeline.arrRefs_sub_ucRefs (τ := τ) spec2 winFacts2.arr_unscoped) c

/-- The host reshapes before the regions. -/
def hseg0 : HostSeg (Ix := Unit) (Name := ℕ) (U := UR sig nD τ) (Lvl := ℕ) (pcfgs (F := F)) defs₀ Variants.none lev lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) rest
/-- The host reshape after them. -/
def hseg3 : HostSeg (Ix := Unit) (Name := ℕ) (U := UR sig nD τ) (Lvl := ℕ) (pcfgs (F := F)) defs₀ Variants.none lev lv0 :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) rest

/-- @main as segments. -/
abbrev items : List (Seg (pcfgs (F := F)) adm (pd m) () defs₀ Variants.none lev lv0) :=
  [.host (hseg0 m), .region (reg0 m), .region (reg1 m), .region (reg2 m), .host (hseg3 m)]

/-! ## The run -/

set_option backward.isDefEq.respectTransparency.types false in
/-- Every weakly fair execution of @main from memory `m` with zero counters terminates, and every final state holds the
    contents `W4 m` in every unscoped buffer and zero in every semaphore counter. -/
theorem run_all : θ_run defs (onTc (τ := τ) (main (F := F))) ⟨m, fun _ => 0, ρ⟩ (fun r =>
    (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pd m) () cellOf_inj emb₁ defs₀ Variants.none lev lv0 m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0)
    (fun g h => by unfold lev; rw [if_neg h]) (fun _ => iprop(emp))
    (initOf (Pipeline.cells cfgs cellOf_inj) (Pipeline.launchToks cfgs cellOf_inj)) ?_
    (T₀ := fun c => iprop(StableHlo.held (c.tc : Thread nD τ) (Pipeline.ucRefs τ sig) (fun b => m (c, b)) ∗ rest c))
    (Tₙ := fun c => StableHlo.held (c.tc : Thread nD τ) (Pipeline.ucRefs τ sig) (W4 m c))
    (hch := fun c => ⟨.rfl, reg0_pre m c, (reg0_post m c).trans (reg1_pre m c), (reg1_post m c).trans (reg2_pre m c), reg2_post m c, ?_⟩)
    (hinit := ?_) (QY := fun c s => ∀ b ∈ Pipeline.ucRefs τ sig, s.mem ((c.tc : Thread nD τ).1, b) = W4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c.tc : Thread nD τ) (Pipeline.ucRefs τ sig) (W4 m c) ∗ rest c) ⊢ _
    iintro ⟨Hh, HO, -⟩
    isplitl [Hh]; · iexact Hh
    iexact HO
  · refine Pipeline.initEach lev lv0 fun c => ?_
    rw [show unscopedBufs c (fun b => m ((c.tc : Thread nD τ).loc b)) = StableHlo.held (c.tc : Thread nD τ) (Pipeline.ucRefs τ sig) (fun b => m (c, b))
      from Pipeline.unscopedBufs_held (Ix := Unit) (Name := ℕ) (U := UR sig nD τ) (Lvl := ℕ) c (fun b => m (c, b))]
    iintro ⟨⟨Hh, -, HO, -⟩, -⟩
    imodintro
    isplitl [Hh]; · iexact Hh
    isplitl [HO]; · iexists _; iexact HO
    isplitr; · iempintro
    iempintro
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro; iexact Hr

/-- No item changes a buffer that no host stretch writes and no region's output window stages. -/
theorem W4_keeps (c : Dev nD) (r : Ref sig .tc) (h0 : r ∉ hostOps0_W) (h3 : r ∉ hostOps3_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) : W4 m c (Proc.devRef .tc r) = m ((c : Thread nD τ).loc r) :=
  (W4_of m c r h3).trans ((W3_of m c r g2).trans ((W2_of m c r g1).trans ((W1_of m c r g0).trans (W0_of m c r h0))))

/-- A TensorCore's unscoped buffer, read off the run's post. -/
theorem read_end {s : MemSt nD τ sig (Elt F)} (c : Dev nD) (r : Ref sig .tc) (hr : r.isScoped = false)
    (h : ∀ b ∈ Pipeline.ucRefs τ sig, s.mem ((c.tc : Thread nD τ).1, b) = W4 m c b) :
    s.mem ((c.tc : Thread nD τ).loc r) = W4 m c (Proc.devRef .tc r) :=
  h (Proc.devRef .tc r) (Finset.mem_filter.mpr ⟨StableHlo.devRef_mem_tcRefs r, fun h' => Bool.false_ne_true (hr.symm.trans h')⟩)

/-- Where every unscoped buffer holds the end contents, each argument is as it was. -/
theorem args_kept {s : MemSt nD τ sig (Elt F)} (c : Dev nD)
    (h : ∀ b ∈ Pipeline.ucRefs τ sig, s.mem ((c.tc : Thread nD τ).1, b) = W4 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13) :=
  ⟨(read_end m c main_arg0 rfl h).trans (W4_keeps m c main_arg0 (by decide) (by decide) (by decide) (by decide) (by decide)),
    (read_end m c main_arg1 rfl h).trans (W4_keeps m c main_arg1 (by decide) (by decide) (by decide) (by decide) (by decide)),
    (read_end m c main_arg2 rfl h).trans (W4_keeps m c main_arg2 (by decide) (by decide) (by decide) (by decide) (by decide)),
    (read_end m c main_arg3 rfl h).trans (W4_keeps m c main_arg3 (by decide) (by decide) (by decide) (by decide) (by decide)),
    (read_end m c main_arg4 rfl h).trans (W4_keeps m c main_arg4 (by decide) (by decide) (by decide) (by decide) (by decide)),
    (read_end m c main_arg5 rfl h).trans (W4_keeps m c main_arg5 (by decide) (by decide) (by decide) (by decide) (by decide)),
    (read_end m c main_arg6 rfl h).trans (W4_keeps m c main_arg6 (by decide) (by decide) (by decide) (by decide) (by decide)),
    (read_end m c main_arg7 rfl h).trans (W4_keeps m c main_arg7 (by decide) (by decide) (by decide) (by decide) (by decide)),
    (read_end m c main_arg8 rfl h).trans (W4_keeps m c main_arg8 (by decide) (by decide) (by decide) (by decide) (by decide)),
    (read_end m c main_arg9 rfl h).trans (W4_keeps m c main_arg9 (by decide) (by decide) (by decide) (by decide) (by decide)),
    (read_end m c main_arg10 rfl h).trans (W4_keeps m c main_arg10 (by decide) (by decide) (by decide) (by decide) (by decide)),
    (read_end m c main_arg11 rfl h).trans (W4_keeps m c main_arg11 (by decide) (by decide) (by decide) (by decide) (by decide)),
    (read_end m c main_arg12 rfl h).trans (W4_keeps m c main_arg12 (by decide) (by decide) (by decide) (by decide) (by decide)),
    (read_end m c main_arg13 rfl h).trans (W4_keeps m c main_arg13 (by decide) (by decide) (by decide) (by decide) (by decide))⟩

/-- The arguments end as launched, and every counter at zero: the frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => args_kept m c (h.1 c), h.2⟩) (run_all m ρ)

end Cert.KernelIdeal.Run

end
-- ==== Proof.Network.lean ====
/- The network on plain arrays of extended reals, entry by entry: what both programs compute. -/
module

public import Idealize.ShloMosaic.PureOps.Ideal
public import Idealize.ShloMosaic.PureOps.Ideal.Laws

@[expose] public section

noncomputable section

namespace Cert.Network

open Idealize.ShloMosaic

/-- The rows of `X` through a linear layer: `X W + b`. -/
def affine {n k l : ℕ} (X : Fin n → Fin k → EReal) (W : Fin k → Fin l → EReal) (b : Fin l → EReal) (r : Fin n) (j : Fin l) : EReal :=
  ∑ q, X r q * W q j + b j

/-- What the hyperedges gather from their nodes: `Bᵀ X`. -/
def edges {n e d : ℕ} (B : Fin n → Fin e → EReal) (X : Fin n → Fin d → EReal) (q : Fin e) (j : Fin d) : EReal :=
  ∑ r, B r q * X r j

/-- The nodes with what they gather back from their hyperedges: `X + B M`. -/
def gather {n e d : ℕ} (B : Fin n → Fin e → EReal) (X : Fin n → Fin d → EReal) (M : Fin e → Fin d → EReal) (r : Fin n) (j : Fin d) :
    EReal :=
  X r j + ∑ q, B r q * M q j

/-- The two-layer perceptron with a rectifier between its layers. -/
def perceptron {n d h : ℕ} (Y : Fin n → Fin d → EReal) (W1 : Fin d → Fin h → EReal) (b1 : Fin h → EReal) (W2 : Fin h → Fin d → EReal)
    (b2 : Fin d → EReal) : Fin n → Fin d → EReal :=
  affine (fun r q => max (affine Y W1 b1 r q) 0) W2 b2

/-- One layer of the network: gather from the hyperedges, then the perceptron. -/
def layer {n e d h : ℕ} (B : Fin n → Fin e → EReal) (X : Fin n → Fin d → EReal) (W1 : Fin d → Fin h → EReal) (b1 : Fin h → EReal)
    (W2 : Fin h → Fin d → EReal) (b2 : Fin d → EReal) : Fin n → Fin d → EReal :=
  perceptron (gather B X (edges B X)) W1 b1 W2 b2

/-- The columns' sums over the rows. -/
def columns {n d : ℕ} (X : Fin n → Fin d → EReal) (j : Fin d) : EReal := ∑ r, X r j

/-- The read-out: the columns' means of the last layer through a linear layer and the logistic function. -/
def readout {d : ℕ} (P : Fin d → EReal) (W : Fin d → EReal) (b : EReal) : EReal :=
  Ideal.logistic (∑ j, P j * ((1 / 10000 : ℝ) : EReal) * W j + b)

end Cert.Network

end
-- ==== Proof.ReferenceValue.lean ====
/- The reference's result, entry by entry: the network of Proof/Network.lean. -/
module

public import proofs.«01_k».proof.Proof.Network
public import proofs.«01_k».proof.Proof.Gen.ReferenceIdeal.Run
public import Idealize.ShloMosaic.Lib.Pointwise

@[expose] public section

set_option maxRecDepth 16384

noncomputable section

namespace Cert.ReferenceIdeal.Read

open Idealize.ShloMosaic Idealize.SL.Sem Cert.ReferenceIdeal.Gen

/-- The reference's first layer on arrays: `x W + b`. -/
def embed (x : FVec Ideal S10000x128 .f32) (w : FVec Ideal S128x128 .f32) (b : FVec Ideal S128 .f32) : FVec Ideal S10000x128 .f32 :=
  addf (Host.dotGeneral dot_S10000x128_S128x128_S10000x128_1_0_0_1_n_n none x w)
    (broadcastInDim S10000x128 ![0, 1] bcast_S1x128_S10000x128_0_1 (broadcastInDim S1x128 ![1] bcast_S128_S1x128_1 b))

/-- One of its message-passing layers on arrays. -/
def step (inc : FVec Ideal S10000x4096 .f32) (x : FVec Ideal S10000x128 .f32) (w1 : FVec Ideal S128x256 .f32) (b1 : FVec Ideal S256 .f32)
    (w2 : FVec Ideal S256x128 .f32) (b2 : FVec Ideal S128 .f32) : FVec Ideal S10000x128 .f32 :=
  addf (Host.dotGeneral dot_S10000x256_S256x128_S10000x128_1_0_0_1_n_n none
      (maximumf (addf (Host.dotGeneral dot_S10000x128_S128x256_S10000x256_1_0_0_1_n_n none
          (addf (mulf (broadcastInDim S10000x128 ![] bcast_S_S10000x128 (constant S_ .f32 0x3F800000#32)) x)
            (Host.dotGeneral dot_S10000x4096_S4096x128_S10000x128_1_0_0_1_n_n none inc
              (Host.dotGeneral dot_S4096x10000_S10000x128_S4096x128_1_0_0_1_n_n none
                (transpose S4096x10000 [1, 0] inc transposes_S10000x4096_S4096x10000_1_0) x))) w1)
          (broadcastInDim S10000x256 ![0, 1] bcast_S1x256_S10000x256_0_1 (broadcastInDim S1x256 ![1] bcast_S256_S1x256_1 b1)))
        (broadcastInDim S10000x256 ![] bcast_S_S10000x256 (constant S_ .f32 0x00000000#32))) w2)
    (broadcastInDim S10000x128 ![0, 1] bcast_S1x128_S10000x128_0_1 (broadcastInDim S1x128 ![1] bcast_S128_S1x128_1 b2))

/-- Its read-out on arrays: the mean over the nodes, a linear layer, and the logistic function by its quotient. -/
def pool (x : FVec Ideal S10000x128 .f32) (w : FVec Ideal S128x1 .f32) (b : FVec Ideal S1 .f32) : FVec Ideal S1 .f32 :=
  Host.divf (broadcastInDim S1 ![] bcast_S_S1 (constant S_ .f32 0x3F800000#32))
    (addf (broadcastInDim S1 ![] bcast_S_S1 (constant S_ .f32 0x3F800000#32))
      (Host.exp (Host.negf (addf (Host.dotGeneral dot_S128_S128x1_S1_0_0_n_1_n_n none
        (Host.divf (Host.reduceAdd x (constant S_ .f32 0x00000000#32) reducesTo_S10000x128_S128_d0 h_S_)
          (broadcastInDim S128 ![] bcast_S_S128 (constant S_ .f32 0x461C4000#32))) w) b))))

/-- The reference's result is those stages composed. -/
theorem res_eq (m : (ℓ : Loc nD τ sig) → Buf (Elt Ideal) ℓ) (c : Dev nD) :
    Value.res_main_v44 m c
      = pool (step (m (c.tc.loc main_arg1)) (step (m (c.tc.loc main_arg1))
          (embed (m (c.tc.loc main_arg0)) (m (c.tc.loc main_arg2)) (m (c.tc.loc main_arg3)))
          (m (c.tc.loc main_arg4)) (m (c.tc.loc main_arg5)) (m (c.tc.loc main_arg6)) (m (c.tc.loc main_arg7)))
          (m (c.tc.loc main_arg8)) (m (c.tc.loc main_arg9)) (m (c.tc.loc main_arg10)) (m (c.tc.loc main_arg11)))
          (m (c.tc.loc main_arg12)) (m (c.tc.loc main_arg13)) := by
  unfold Value.res_main_v44 pool step embed
  rfl

/-- The first layer, entry by entry. -/
theorem embed_apply (x : FVec Ideal S10000x128 .f32) (w : FVec Ideal S128x128 .f32) (b : FVec Ideal S128 .f32) (r : Fin 10000) (j : Fin 128) :
    embed x w b (ix2 r j) = Network.affine (fun r q => x (ix2 r q)) (fun q j => w (ix2 q j)) (fun j => b (ix1 j)) r j := by
  unfold embed Network.affine
  pointwise

/-- A message-passing layer, entry by entry. -/
theorem step_apply (inc : FVec Ideal S10000x4096 .f32) (x : FVec Ideal S10000x128 .f32) (w1 : FVec Ideal S128x256 .f32) (b1 : FVec Ideal S256 .f32)
    (w2 : FVec Ideal S256x128 .f32) (b2 : FVec Ideal S128 .f32) (r : Fin 10000) (j : Fin 128) :
    step inc x w1 b1 w2 b2 (ix2 r j) = Network.layer (fun r e => inc (ix2 r e)) (fun r q => x (ix2 r q)) (fun q j => w1 (ix2 q j)) (fun j => b1 (ix1 j))
      (fun q j => w2 (ix2 q j)) (fun j => b2 (ix1 j)) r j := by
  unfold step Network.layer Network.perceptron Network.affine Network.gather Network.edges
  pointwise

/-- The f32 pattern `0x461C4000` is the real 10000. -/
theorem ofBits_10000 : Ideal.ofBits .f32 0x461C4000#32 = ((10000 : ℝ) : EReal) := by
  simp [Ideal.ofBits, Ideal.ieee, -EReal.coe_mul]; norm_num

/-- The read-out, at its one entry. -/
theorem pool_apply (x : FVec Ideal S10000x128 .f32) (w : FVec Ideal S128x1 .f32) (b : FVec Ideal S1 .f32) (i : Fin 1) :
    pool x w b (ix1 i) = Network.readout (Network.columns fun r j => x (ix2 r j)) (fun j => w (ix2 j 0)) (b (ix1 0)) := by
  unfold pool Network.readout Network.columns
  pointwise
  rw [show i = 0 from Subsingleton.elim _ _, Ideal.logistic]
  simp only [ofBits_10000, Ideal.div_coe (show (10000 : ℝ) ≠ 0 by norm_num)]

end Cert.ReferenceIdeal.Read

end
-- ==== Proof.Packing.lean ====
/- Thirty-two zeros and ones packed into a word, sixteen to a half, and read back one bit at a time. -/
module

public import proofs.«01_k».proof.Proof.Network

@[expose] public section

noncomputable section

namespace Cert.Packing

open Idealize.ShloMosaic Finset

/-- The number whose binary digits are `b 0, …, b (n - 1)`. -/
def digits (b : ℕ → Bool) (n : ℕ) : ℕ := ∑ k ∈ range n, (b k).toNat * 2 ^ k

/-- Its digit at `k` is `b k`, and there is none from `n` on. -/
theorem testBit_digits (n : ℕ) : ∀ (b : ℕ → Bool) (k : ℕ), (digits b n).testBit k = (decide (k < n) && b k) := by
  induction n with
  | zero => intro b k; simp [digits]
  | succ n ih =>
    intro b k
    have h : digits b (n + 1) = Nat.bit (b 0) (digits (fun k => b (k + 1)) n) := by
      rw [digits, sum_range_succ', digits, Nat.bit_val, mul_sum]
      congr 1
      · exact sum_congr rfl fun k _ => by ring
      · simp
    rw [h]
    cases k with
    | zero => simp
    | succ k => rw [Nat.testBit_bit_succ, ih]; simp

/-- It is below `2 ^ n`. -/
theorem digits_lt (b : ℕ → Bool) (n : ℕ) : digits b n < 2 ^ n :=
  Nat.lt_pow_two_of_testBit _ fun k hk => by rw [testBit_digits, decide_eq_false (by omega), Bool.false_and]

/-- A natural number that fits the word is converted to itself. -/
theorem fptosi_nat (n : ℕ) (h : n < 2 ^ 16) : Ideal.fptosi 32 (((n : ℝ)) : EReal) = BitVec.ofNat 32 n := by
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega, BitVec.ofInt_natCast]

/-- Sixteen digits as a sum of extended reals. -/
theorem sum_digits (f : ℕ → EReal) (b : ℕ → Bool) (n : ℕ) (h : ∀ k < n, f k = (((b k).toNat : ℝ) : EReal)) :
    ∑ k ∈ range n, f k * ((2 ^ k : ℝ) : EReal) = ((digits b n : ℝ) : EReal) := by
  induction n with
  | zero => simp [digits]
  | succ n ih =>
    rw [sum_range_succ, ih fun k hk => h k (by omega), h n (by omega), ← EReal.coe_mul, ← EReal.coe_add, digits, digits, sum_range_succ]
    push_cast
    rfl

/-- The word of thirty-two values: the first sixteen in its low half, the others in its high half. -/
def word (f : ℕ → EReal) : BitVec 32 :=
  Ideal.fptosi 32 (∑ k ∈ range 16, f k * ((2 ^ k : ℝ) : EReal))
    ||| (Ideal.fptosi 32 (∑ k ∈ range 16, f (16 + k) * ((2 ^ k : ℝ) : EReal)) <<< 16)

/-- The bit `k` of a word as a number. -/
def bit (w : BitVec 32) (k : ℕ) : EReal := (((w.sshiftRight k &&& 1#32).toInt : ℝ) : EReal)

/-- The bit `k` is one or zero as the word has the bit or not. -/
theorem bit_eq (w : BitVec 32) (k : ℕ) (hk : k < 32) : bit w k = (((w.getLsbD k).toNat : ℝ) : EReal) := by
  have h : w.sshiftRight k &&& 1#32 = BitVec.ofNat 32 (w.getLsbD k).toNat := by
    refine BitVec.eq_of_getLsbD_eq fun i hi => ?_
    rw [BitVec.getLsbD_and, BitVec.getLsbD_sshiftRight, BitVec.getLsbD_one, BitVec.getLsbD_ofNat]
    rcases Nat.eq_zero_or_pos i with rfl | h0
    · cases hb : w.getLsbD k <;> simp [hk, hb]
    · cases hb : w.getLsbD k <;> simp [Nat.testBit_one_eq_true_iff_self_eq_zero, Nat.pos_iff_ne_zero.mp h0, Bool.eq_false_iff]
  rw [bit, h]
  cases w.getLsbD k <;> norm_num

/-- Packing zeros and ones and reading a bit gives the value back. -/
theorem bit_word (f : ℕ → EReal) (hf : ∀ k < 32, f k = 0 ∨ f k = 1) (k : ℕ) (hk : k < 32) : bit (word f) k = f k := by
  classical
  have hb : ∀ k < 32, f k = ((((decide (f k = 1)).toNat : ℕ) : ℝ) : EReal) := by
    intro k hk
    rcases hf k hk with h | h <;> simp [h]
  have hlo := sum_digits f (fun k => decide (f k = 1)) 16 fun k hk => hb k (by omega)
  have hhi := sum_digits (fun k => f (16 + k)) (fun k => decide (f (16 + k) = 1)) 16 fun k hk => hb (16 + k) (by omega)
  rw [bit_eq _ _ hk, hb k hk]
  congr 3
  rw [word, hlo, hhi, fptosi_nat _ (digits_lt _ _), fptosi_nat _ (digits_lt _ _), BitVec.getLsbD_or, BitVec.getLsbD_shiftLeft,
    BitVec.getLsbD_ofNat, BitVec.getLsbD_ofNat, testBit_digits, testBit_digits]
  by_cases h : k < 16
  · simp [h, hk]
  · simp [h, hk, show k - 16 < 16 by omega, show k - 16 < 32 by omega, show 16 + (k - 16) = k by omega]

end Cert.Packing

end
-- ==== Proof.Read1.lean ====
/- What the second and third passes compute on a block, entry by entry over the extended reals. -/
module

public import proofs.«01_k».proof.Proof.Packing
public import proofs.«01_k».proof.Proof.IdealBody1
public import proofs.«01_k».proof.Proof.IdealBody2
public import Idealize.ShloMosaic.Lib.Pointwise

@[expose] public section

set_option maxRecDepth 16384

noncomputable section

namespace Cert.KernelIdeal.Read

open Idealize.ShloMosaic Idealize.SL.Sem Cert.KernelIdeal.Gen Cert.KernelIdeal.Run

/-- One bit of every word of a block, as a number. -/
def plane (w : Vec Ideal S2000x128 .i32) (k : Fin 32) : FVec Ideal S2000x128 .bf16 :=
  sitofp .bf16 (andi (shrsi (k1_pay5 (F := Ideal) w) (broadcast S2000x128 (BitVec.ofNat 32 k))) (broadcast S2000x128 1#32))

/-- Thirty-two blocks of 128 columns fill 4096 columns. -/
theorem planes_fit (w : Vec Ideal S2000x128 .i32) :
    Shape.Concatenates ((List.ofFn fun k : Fin 32 => (⟨S2000x128, plane w k⟩ : (s : Shape) × (s.Idx → EReal))).map (·.1)) S2000x4096 1 :=
  concatenates_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x128_S2000x4096_d1

/-- The unpacked block is its thirty-two bit planes side by side. -/
theorem bits1_eq (w : Vec Ideal S2000x128 .i32) :
    bits1 (F := Ideal) w = concatenate S2000x4096 1 (List.ofFn fun k : Fin 32 => (⟨S2000x128, plane w k⟩ : (s : Shape) × (s.Idx → EReal)))
      (planes_fit w) := by
  unfold bits1 k1_pay33
  rfl

/-- An arithmetic shift to the right by an amount below the width. -/
theorem shrsi_lt (x : BitVec 32) (k : ℕ) (hk : k < 32) : IntOp.shrsi .vector x (BitVec.ofNat 32 k) = x.sshiftRight k := by
  have h : (BitVec.ofNat 32 k).toNat = k := by rw [BitVec.toNat_ofNat]; exact Nat.mod_eq_of_lt (by omega)
  rw [IntOp.shrsi, h, if_pos hk, BitVec.sshiftRight_eq', h]

/-- The unpacked block, entry by entry: column `e` is bit `e / 128` of the word `e % 128`. -/
theorem bits1_apply (w : Vec Ideal S2000x128 .i32) (r : Fin 2000) (e : Fin 4096) :
    bits1 (F := Ideal) w (ix2 r e) = Packing.bit (w (ix2 r ⟨e % 128, Nat.mod_lt _ (by decide)⟩)) (e / 128) := by
  rw [bits1_eq, concatenate_ofFn_apply (t := S2000x4096) (s₁ := S2000x128) 1 (plane w) (planes_fit w) rfl 128 rfl (ix2 r e) ⟨e / 128, by omega⟩ rfl
    (ix2 r ⟨e % 128, Nat.mod_lt _ (by decide)⟩) rfl (fun b hb => by fin_cases b; exacts [rfl, absurd rfl hb])]
  unfold plane Packing.bit
  pointwise [k1_pay5]
  rw [shrsi_lt _ _ (by omega)]
  rfl

/-- The third pass gathers its messages as the second does. -/
theorem msg2_eq (w : Vec Ideal S2000x128 .i32) (m : Vec Ideal S4096x128 .bf16) : msg2 w m = msg1 w m := by
  unfold msg2 msg1
  unfold k1_pay35 k1_pay33 k2_pay33
  rfl

/-- The messages to the nodes, entry by entry. -/
theorem msg1_apply (w : Vec Ideal S2000x128 .i32) (m : Vec Ideal S4096x128 .bf16) (r : Fin 2000) (j : Fin 128) :
    msg1 w m (ix2 r j) = ∑ e, bits1 (F := Ideal) w (ix2 r e) * m (ix2 e j) := by
  unfold msg1 bits1
  unfold k1_pay35
  generalize k1_pay33 (F := Ideal) _ _ _ _ _ _ _ _ _ _ _ _ _ _ _ _ _ _ _ _ _ _ _ _ _ _ = B
  pointwise

/-- The node block of the second pass, entry by entry. -/
theorem nodes1_apply (w : Vec Ideal S2000x128 .i32) (x : Vec Ideal S2000x128 .f32) (m : Vec Ideal S4096x128 .bf16) (w1 : Vec Ideal S128x256 .f32)
    (b1 : Vec Ideal S1x256 .f32) (w2 : Vec Ideal S256x128 .f32) (b2 : Vec Ideal S1x128 .f32) (r : Fin 2000) (j : Fin 128) :
    nodes1 w x m w1 b1 w2 b2 (ix2 r j) = Network.perceptron (Network.gather (fun r e => bits1 (F := Ideal) w (ix2 r e)) (fun r q => x (ix2 r q)) (fun e q => m (ix2 e q)))
      (fun q j => w1 (ix2 q j)) (fun j => b1 (ix2 0 j)) (fun q j => w2 (ix2 q j)) (fun j => b2 (ix2 0 j)) r j := by
  unfold nodes1 Network.perceptron Network.gather Network.affine
  pointwise [k1_pay1, k1_pay34, msg1_apply]

/-- The accumulator of the second pass after a block. -/
theorem acc1_apply (z : Prop) [Decidable z] (w : Vec Ideal S2000x128 .i32) (x : Vec Ideal S2000x128 .f32) (m : Vec Ideal S4096x128 .bf16) (w1 : Vec Ideal S128x256 .f32)
    (b1 : Vec Ideal S1x256 .f32) (w2 : Vec Ideal S256x128 .f32) (b2 : Vec Ideal S1x128 .f32) (s : Vec Ideal S128x4096 .f32) (j : Fin 128) (e : Fin 4096) :
    acc1 z w x m w1 b1 w2 b2 s (ix2 j e)
      = (if z then 0 else s (ix2 j e)) + ∑ r, nodes1 w x m w1 b1 w2 b2 (ix2 r j) * bits1 (F := Ideal) w (ix2 r e) := by
  unfold acc1 nodes1
  unfold k1_pay3
  generalize k1_pay1 (F := Ideal) _ _ _ _ _ _ = Y
  generalize bits1 (F := Ideal) w = B
  split_ifs <;> pointwise [k1_pay2]

/-- The message block of the second pass is its accumulator transposed. -/
theorem fin1_apply (s : Vec Ideal S128x4096 .f32) (e : Fin 4096) (j : Fin 128) : fin1 s (ix2 e j) = s (ix2 j e) := by
  unfold fin1
  pointwise [k1_pay4]

/-- The pool of the third pass after a block: the block's columns are added up. -/
theorem acc2_apply (z : Prop) [Decidable z] (w : Vec Ideal S2000x128 .i32) (x : Vec Ideal S2000x128 .f32) (m : Vec Ideal S4096x128 .bf16) (w1 : Vec Ideal S128x256 .f32)
    (b1 : Vec Ideal S1x256 .f32) (w2 : Vec Ideal S256x128 .f32) (b2 : Vec Ideal S1x128 .f32) (s : Vec Ideal S1x128 .f32) (j : Fin 128) :
    acc2 z w x m w1 b1 w2 b2 s (ix2 0 j) = (if z then 0 else s (ix2 0 j)) + ∑ r, nodes1 w x m w1 b1 w2 b2 (ix2 r j) := by
  unfold acc2 nodes1
  rw [msg2_eq]
  generalize msg1 w m = M
  split_ifs <;> pointwise [k1_pay1, k2_pay2, k2_pay1, k1_pay34, k2_pay32]

/-- The read-out of the third pass. -/
theorem fin2_apply (s : Vec Ideal S1x128 .f32) (w : Vec Ideal S128x1 .f32) (b : Vec Ideal S1x1 .f32) :
    fin2 s w b (ix2 0 0) = Network.readout (fun j => s (ix2 0 j)) (fun j => w (ix2 j 0)) (b (ix2 0 0)) := by
  unfold fin2 Network.readout
  pointwise [k2_pay3, (IdealRules.named_const.statement κ "inv_n" FTy.f32 0x38D1B717#32 ((1 / 10000 : ℝ) : EReal) rfl).2.2]

end Cert.KernelIdeal.Read

end
-- ==== Proof.Read0.lean ====
/- What the first pass computes on a block, entry by entry over the extended reals. -/
module

public import proofs.«01_k».proof.Proof.Packing
public import proofs.«01_k».proof.Proof.IdealBody0
public import Idealize.ShloMosaic.Lib.Pointwise

@[expose] public section

set_option maxRecDepth 16384

noncomputable section

namespace Cert.KernelIdeal.Read

open Idealize.ShloMosaic Idealize.SL.Sem Cert.KernelIdeal.Gen Cert.KernelIdeal.Run

/-- A power of two by its f32 pattern. -/
theorem ofBits_pow (k : ℕ) (hk : k < 16) (b : BitVec 32) (hb : b = BitVec.ofNat 32 ((127 + k) * 2 ^ 23)) :
    Ideal.ofBits .f32 b = ((2 ^ k : ℝ) : EReal) := by
  subst hb
  interval_cases k <;> simp [Ideal.ofBits, Ideal.ieee, -EReal.coe_mul, -EReal.coe_pow] <;> norm_num

/-- Column `l` of the `k`-th group of 128 columns. -/
def col (k : ℕ) (l : Fin 128) : Fin 4096 := Fin.ofNat 4096 (128 * k + l)

/-- Its number. -/
theorem col_eq (k : ℕ) (hk : k < 32) (l : Fin 128) : col k l = ⟨128 * k + l, by omega⟩ :=
  Fin.ext (Nat.mod_eq_of_lt (by omega))

/-- A shift by sixteen places. -/
theorem shli_16 (x : BitVec 32) : IntOp.shli .vector x 16#32 = x <<< 16 := rfl

/-- The node block, entry by entry. -/
theorem nodes0_apply (x0 : Vec Ideal S1000x128 .f32) (w : Vec Ideal S128x128 .f32) (b : Vec Ideal S1x128 .f32) (r : Fin 1000) (j : Fin 128) :
    nodes0 x0 w b (ix2 r j) = Network.affine (fun r q => x0 (ix2 r q)) (fun q j => w (ix2 q j)) (fun j => b (ix2 0 j)) r j := by
  unfold nodes0 Network.affine
  pointwise [k0_pay1]

/-- The accumulator after a block: what it held, or zero at the first block, plus the block's products. -/
theorem acc0_apply (z : Prop) [Decidable z] (x0 : Vec Ideal S1000x128 .f32) (x1 : Vec Ideal S1000x4096 .f32) (w : Vec Ideal S128x128 .f32) (b : Vec Ideal S1x128 .f32)
    (s : Vec Ideal S128x4096 .f32) (j : Fin 128) (e : Fin 4096) :
    acc0 z x0 x1 w b s (ix2 j e) = (if z then 0 else s (ix2 j e)) + ∑ r, nodes0 x0 w b (ix2 r j) * x1 (ix2 r e) := by
  unfold acc0 nodes0
  split_ifs <;> pointwise [k0_pay3, k0_pay2]

/-- The message block is the accumulator transposed. -/
theorem fin0_apply (s : Vec Ideal S128x4096 .f32) (e : Fin 4096) (j : Fin 128) : fin0 s (ix2 e j) = s (ix2 j e) := by
  unfold fin0
  pointwise [k0_pay4]

/-- The word block packs, at each place, the entries of one column of each group. -/
theorem words0_apply (x1 : Vec Ideal S1000x4096 .f32) (r : Fin 1000) (l : Fin 128) :
    words0 x1 (ix2 r l) = Packing.word fun k => x1 (ix2 r (col k l)) := by
  unfold words0 Packing.word
  pointwise [k0_pay11, k0_pay10, k0_pay9, k0_pay8, k0_pay7, k0_pay6, k0_pay5]
  simp (discharger := decide) only [shli_16, col_eq, Finset.sum_range_succ, Finset.sum_range_zero, zero_add, pow_zero, EReal.coe_one,
    mul_one, mul_zero, Nat.reduceMul, Nat.reduceAdd, add_zero,
    ofBits_pow 1 (by decide) 0x40000000#32 rfl, ofBits_pow 2 (by decide) 0x40800000#32 rfl, ofBits_pow 3 (by decide) 0x41000000#32 rfl,
    ofBits_pow 4 (by decide) 0x41800000#32 rfl, ofBits_pow 5 (by decide) 0x42000000#32 rfl, ofBits_pow 6 (by decide) 0x42800000#32 rfl,
    ofBits_pow 7 (by decide) 0x43000000#32 rfl, ofBits_pow 8 (by decide) 0x43800000#32 rfl, ofBits_pow 9 (by decide) 0x44000000#32 rfl,
    ofBits_pow 10 (by decide) 0x44800000#32 rfl, ofBits_pow 11 (by decide) 0x45000000#32 rfl, ofBits_pow 12 (by decide) 0x45800000#32 rfl,
    ofBits_pow 13 (by decide) 0x46000000#32 rfl, ofBits_pow 14 (by decide) 0x46800000#32 rfl, ofBits_pow 15 (by decide) 0x47000000#32 rfl]
  rfl

end Cert.KernelIdeal.Read

end
-- ==== Proof.Pass0.lean ====
/- The arrays that the first pass leaves, over the contents it is entered at: the embedded nodes, the packed incidence
   words, and the first layer's messages. -/
module

public import proofs.«01_k».proof.Proof.Read0
public import proofs.«01_k».proof.Proof.IdealRegion0
public import Idealize.ShloMosaic.Lib.Pipeline.ValueKit

@[expose] public section

set_option maxRecDepth 16384

noncomputable section

namespace Cert.KernelIdeal.Read

open Idealize.ShloMosaic Idealize.SL.Sem Idealize.ShloMosaic.TcCoe Cert.KernelIdeal Cert.KernelIdeal.Gen Cert.KernelIdeal.Run

variable (W : Dev nD → Valuation τ sig (Elt Ideal)) (c : Dev nD)

/-- The row of the whole matrix that is row `r` of the block of 1000 rows at a point. -/
def line0 (t : Fin cfg0.N) (r : Fin 1000) : Fin 10000 := ⟨t * 1000 + r, by have : t.val < 10 := t.isLt; omega⟩

/-- Window 0 moves down one block of rows per point. -/
theorem index0_0 : ∀ t : Fin cfg0.N, (cfg0.win 0).index t 0 = t.val ∧ (cfg0.win 0).index t 1 = 0 := by decide +kernel
/-- Window 1 moves down one block of rows per point. -/
theorem index0_1 : ∀ t : Fin cfg0.N, (cfg0.win 1).index t 0 = t.val ∧ (cfg0.win 1).index t 1 = 0 := by decide +kernel
/-- Window 2 stays at the whole array. -/
theorem index0_2 : ∀ t : Fin cfg0.N, (cfg0.win 2).index t 0 = 0 ∧ (cfg0.win 2).index t 1 = 0 := by decide +kernel
/-- Window 3 stays at the whole array. -/
theorem index0_3 : ∀ t : Fin cfg0.N, (cfg0.win 3).index t 0 = 0 ∧ (cfg0.win 3).index t 1 = 0 := by decide +kernel
/-- Window 4 moves down one block of rows per point. -/
theorem index0_4 : ∀ t : Fin cfg0.N, (cfg0.win 4).index t 0 = t.val ∧ (cfg0.win 4).index t 1 = 0 := by decide +kernel
/-- Window 5 moves down one block of rows per point. -/
theorem index0_5 : ∀ t : Fin cfg0.N, (cfg0.win 5).index t 0 = t.val ∧ (cfg0.win 5).index t 1 = 0 := by decide +kernel

/-- The block of the node features at a point. -/
theorem blk0_0 (t : Fin cfg0.N) (r : Fin 1000) (q : Fin 128) : blk0 W c 0 t (ix2 r q) = at0 W c main_arg0 (ix2 (line0 t r) q) := by
  blk_ext [blk0, line0, index0_0 t]
/-- The block of the incidence matrix at a point. -/
theorem blk0_1 (t : Fin cfg0.N) (r : Fin 1000) (e : Fin 4096) : blk0 W c 1 t (ix2 r e) = at0 W c main_arg1 (ix2 (line0 t r) e) := by
  blk_ext [blk0, line0, index0_1 t]
/-- The weights are staged whole. -/
theorem blk0_2 (t : Fin cfg0.N) (q j : Fin 128) : blk0 W c 2 t (ix2 q j) = at0 W c main_arg2 (ix2 q j) := by
  blk_ext [blk0, index0_2 t]
/-- So is the bias. -/
theorem blk0_3 (t : Fin cfg0.N) (j : Fin 128) : blk0 W c 3 t (ix2 0 j) = at0 W c main_v0 (ix2 0 j) := by
  blk_ext [blk0, index0_3 t]

/-- The embedded nodes. -/
def nodesIn (r : Fin 10000) (j : Fin 128) : EReal :=
  Network.affine (fun r q => at0 W c main_arg0 (ix2 r q)) (fun q j => at0 W c main_arg2 (ix2 q j)) (fun j => at0 W c main_v0 (ix2 0 j)) r j

/-- A point's node block is its rows of the embedded nodes. -/
theorem nodes0_blk (t : Fin cfg0.N) (r : Fin 1000) (j : Fin 128) :
    nodes0 (blk0 W c 0 t) (blk0 W c 2 t) (blk0 W c 3 t) (ix2 r j) = nodesIn W c (line0 t r) j := by
  rw [nodes0_apply]
  unfold nodesIn Network.affine
  simp only [blk0_0, blk0_2, blk0_3]

/-- The first result array: the embedded nodes. -/
theorem out0_4 : (dat0 W c).arrAt 4 cfg0.N = fun i => nodesIn W c (i 0) (i 1) := by
  refine (dat0 W c).arrAt_eq_of_covers 4 _ (by decide +kernel) fun t hf y => ?_
  blk_simp
  rw [after0_4]
  idx_vars y
  refine (nodes0_blk W c t _ _).trans (congrArg₂ (nodesIn W c) (Fin.ext ?_) (Fin.ext ?_))
  · blk_simp [line0, index0_4 t]
  · blk_simp [line0, index0_4 t]

/-- The second result array: each row of the incidence matrix packed in 128 words. -/
theorem out0_5 : (dat0 W c).arrAt 5 cfg0.N = fun i => Packing.word fun k => at0 W c main_arg1 (ix2 (i 0) (col k (i 1))) := by
  refine (dat0 W c).arrAt_eq_of_covers 5 _ (by decide +kernel) fun t hf y => ?_
  blk_simp
  rw [after0_5]
  idx_vars y
  refine (words0_apply _ _ _).trans (congrArg Packing.word (funext fun k => (blk0_1 W c t _ _).trans
    (congrArg (at0 W c main_arg1) (congrArg₂ ix2 (Fin.ext ?_) (congrArg (col k) (Fin.ext ?_))))))
  · blk_simp [line0, index0_5 t]
  · blk_simp [line0, index0_5 t]

/-- A running sum that starts afresh at the first point adds up the terms of all the points. -/
theorem running_sum {N : ℕ} (s : ℕ → EReal) (term : Fin N → EReal) (h0 : s 0 = 0)
    (h : ∀ t : Fin N, s (t.val + 1) = (if t.val % N = 0 then 0 else s t.val) + term t) : s N = ∑ t, term t := by
  have key : ∀ n (hn : n ≤ N), s n = ∑ t : Fin n, term (Fin.castLE hn t) := by
    intro n
    induction n with
    | zero => intro _; simpa using h0
    | succ n ih =>
      intro hn
      have e := h ⟨n, hn⟩
      have hz : (if n % N = 0 then 0 else s n) = s n := by
        split_ifs with hn0
        · rw [Nat.mod_eq_of_lt hn] at hn0; rw [hn0, h0]
        · rfl
      simp only [hz] at e
      rw [e, ih (by omega), Fin.sum_univ_castSucc]
      rfl
  exact (key N le_rfl).trans rfl

/-- The accumulator starts at zero. -/
theorem zero0_apply (j : Fin 128) (e : Fin 4096) : (k0_pay2 (F := Ideal)) (ix2 j e) = 0 := by
  pointwise [k0_pay2]

/-- After the last point the accumulator holds, per feature and hyperedge, the sum over all the rows. -/
theorem total0 (j : Fin 128) (e : Fin 4096) :
    scr0 W c cfg0.N (ix2 j e) = ∑ r, nodesIn W c r j * at0 W c main_arg1 (ix2 r e) := by
  refine (running_sum (fun n => scr0 W c n (ix2 j e))
    (fun t : Fin cfg0.N => ∑ r : Fin 1000, nodesIn W c (line0 t r) j * at0 W c main_arg1 (ix2 (line0 t r) e)) ?_ fun t => ?_).trans ?_
  · exact zero0_apply j e
  · simp only [scr0, dif_pos t.isLt]
    rw [acc0_apply]
    simp only [nodes0_blk, blk0_1, first0_iff]
    rfl
  · exact Fin.sum_mul_add_fin 10 1000 fun r => nodesIn W c r j * at0 W c main_arg1 (ix2 r e)

/-- The last point. -/
def end0 : Fin cfg0.N := ⟨9, by decide⟩

/-- The third result array: the sums, one row per hyperedge. -/
theorem out0_6 : (dat0 W c).arrAt 6 cfg0.N = fun i => ∑ r, nodesIn W c r (i 1) * at0 W c main_arg1 (ix2 r (i 0)) := by
  refine (dat0 W c).arrAt_eq_of_after_last 6 end0 (by decide +kernel) _ fun y => ?_
  blk_simp
  rw [after0_6]
  idx_vars y
  refine (fin0_apply _ _ _).trans ?_
  exact total0 W c _ _

end Cert.KernelIdeal.Read

end
-- ==== Proof.Pass1.lean ====
/- The arrays that the second pass leaves, over the contents it is entered at: the first layer's nodes and the second layer's messages. -/
module

public import proofs.«01_k».proof.Proof.Read1
public import proofs.«01_k».proof.Proof.Pass0
public import proofs.«01_k».proof.Proof.IdealRegion1

@[expose] public section

set_option maxRecDepth 16384

noncomputable section

namespace Cert.KernelIdeal.Read

open Idealize.ShloMosaic Idealize.SL.Sem Idealize.ShloMosaic.TcCoe Cert.KernelIdeal Cert.KernelIdeal.Gen Cert.KernelIdeal.Run

variable (W : Dev nD → Valuation τ sig (Elt Ideal)) (c : Dev nD)

/-- The row of the whole matrix that is row `r` of the block of 2000 rows at a point. -/
def line1 (t : Fin cfg1.N) (r : Fin 2000) : Fin 10000 := ⟨t * 2000 + r, by have : t.val < 5 := t.isLt; omega⟩

/-- Window 0 moves down one block of rows per point. -/
theorem index1_0 : ∀ t : Fin cfg1.N, (cfg1.win 0).index t 0 = t.val ∧ (cfg1.win 0).index t 1 = 0 := by decide +kernel
/-- Window 1 moves down one block of rows per point. -/
theorem index1_1 : ∀ t : Fin cfg1.N, (cfg1.win 1).index t 0 = t.val ∧ (cfg1.win 1).index t 1 = 0 := by decide +kernel
/-- Window 2 stays at the whole array. -/
theorem index1_2 : ∀ t : Fin cfg1.N, (cfg1.win 2).index t 0 = 0 ∧ (cfg1.win 2).index t 1 = 0 := by decide +kernel
/-- Window 3 stays at the whole array. -/
theorem index1_3 : ∀ t : Fin cfg1.N, (cfg1.win 3).index t 0 = 0 ∧ (cfg1.win 3).index t 1 = 0 := by decide +kernel
/-- Window 4 stays at the whole array. -/
theorem index1_4 : ∀ t : Fin cfg1.N, (cfg1.win 4).index t 0 = 0 ∧ (cfg1.win 4).index t 1 = 0 := by decide +kernel
/-- Window 5 stays at the whole array. -/
theorem index1_5 : ∀ t : Fin cfg1.N, (cfg1.win 5).index t 0 = 0 ∧ (cfg1.win 5).index t 1 = 0 := by decide +kernel
/-- Window 6 stays at the whole array. -/
theorem index1_6 : ∀ t : Fin cfg1.N, (cfg1.win 6).index t 0 = 0 ∧ (cfg1.win 6).index t 1 = 0 := by decide +kernel
/-- Window 7 moves down one block of rows per point. -/
theorem index1_7 : ∀ t : Fin cfg1.N, (cfg1.win 7).index t 0 = t.val ∧ (cfg1.win 7).index t 1 = 0 := by decide +kernel

/-- The block of the packed incidence words at a point. -/
theorem blk1_0 (t : Fin cfg1.N) (r : Fin 2000) (l : Fin 128) : blk1 W c 0 t (ix2 r l) = at1 W c main_v6_1 (ix2 (line1 t r) l) := by
  blk_ext [blk1, line1, index1_0 t]
/-- The block of the nodes at a point. -/
theorem blk1_1 (t : Fin cfg1.N) (r : Fin 2000) (q : Fin 128) : blk1 W c 1 t (ix2 r q) = at1 W c main_v6_0 (ix2 (line1 t r) q) := by
  blk_ext [blk1, line1, index1_1 t]
/-- The messages are staged whole. -/
theorem blk1_2 (t : Fin cfg1.N) (e : Fin 4096) (q : Fin 128) : blk1 W c 2 t (ix2 e q) = at1 W c main_v6_2 (ix2 e q) := by
  blk_ext [blk1, index1_2 t]
/-- So are the first weights, -/
theorem blk1_3 (t : Fin cfg1.N) (q : Fin 128) (j : Fin 256) : blk1 W c 3 t (ix2 q j) = at1 W c main_arg4 (ix2 q j) := by
  blk_ext [blk1, index1_3 t]
/-- the first bias, -/
theorem blk1_4 (t : Fin cfg1.N) (j : Fin 256) : blk1 W c 4 t (ix2 0 j) = at1 W c main_v1 (ix2 0 j) := by
  blk_ext [blk1, index1_4 t]
/-- the second weights, -/
theorem blk1_5 (t : Fin cfg1.N) (q : Fin 256) (j : Fin 128) : blk1 W c 5 t (ix2 q j) = at1 W c main_arg6 (ix2 q j) := by
  blk_ext [blk1, index1_5 t]
/-- and the second bias. -/
theorem blk1_6 (t : Fin cfg1.N) (j : Fin 128) : blk1 W c 6 t (ix2 0 j) = at1 W c main_v2 (ix2 0 j) := by
  blk_ext [blk1, index1_6 t]

/-- The incidence matrix that the packed words spell. -/
def spelled1 (r : Fin 10000) (e : Fin 4096) : EReal :=
  Packing.bit (at1 W c main_v6_1 (ix2 r ⟨e % 128, Nat.mod_lt _ (by decide)⟩)) (e / 128)

/-- The nodes after the layer. -/
def nodesOut1 (r : Fin 10000) (j : Fin 128) : EReal :=
  Network.perceptron (Network.gather (spelled1 W c) (fun r q => at1 W c main_v6_0 (ix2 r q)) (fun e q => at1 W c main_v6_2 (ix2 e q)))
    (fun q j => at1 W c main_arg4 (ix2 q j)) (fun j => at1 W c main_v1 (ix2 0 j))
    (fun q j => at1 W c main_arg6 (ix2 q j)) (fun j => at1 W c main_v2 (ix2 0 j)) r j

/-- A point's unpacked block is its rows of the matrix that the words spell. -/
theorem bits1_blk (t : Fin cfg1.N) (r : Fin 2000) (e : Fin 4096) :
    bits1 (F := Ideal) (blk1 W c 0 t) (ix2 r e) = spelled1 W c (line1 t r) e := by
  rw [bits1_apply, blk1_0]
  rfl

/-- A point's node block is its rows of the layer's nodes. -/
theorem nodes1_blk (t : Fin cfg1.N) (r : Fin 2000) (j : Fin 128) :
    nodes1 (blk1 W c 0 t) (blk1 W c 1 t) (blk1 W c 2 t) (blk1 W c 3 t) (blk1 W c 4 t) (blk1 W c 5 t) (blk1 W c 6 t) (ix2 r j) = nodesOut1 W c (line1 t r) j := by
  rw [nodes1_apply]
  unfold nodesOut1 Network.perceptron Network.affine Network.gather
  simp only [bits1_blk, blk1_1, blk1_2, blk1_3, blk1_4, blk1_5, blk1_6]

/-- The first result array: the nodes after the layer. -/
theorem out1_7 : (dat1 W c).arrAt 7 cfg1.N = fun i => nodesOut1 W c (i 0) (i 1) := by
  refine (dat1 W c).arrAt_eq_of_covers 7 _ (by decide +kernel) fun t hf y => ?_
  blk_simp
  rw [after1_7]
  idx_vars y
  refine (nodes1_blk W c t _ _).trans (congrArg₂ (nodesOut1 W c) (Fin.ext ?_) (Fin.ext ?_))
  · blk_simp [line1, index1_7 t]
  · blk_simp [line1, index1_7 t]

/-- The accumulator starts at zero. -/
theorem zero1_apply (j : Fin 128) (e : Fin 4096) : (k1_pay2 (F := Ideal)) (ix2 j e) = 0 := by
  pointwise [k1_pay2]

/-- After the last point the accumulator holds, per feature and hyperedge, the sum over all the rows. -/
theorem total1 (j : Fin 128) (e : Fin 4096) : scr1 W c cfg1.N (ix2 j e) = ∑ r, nodesOut1 W c r j * spelled1 W c r e := by
  refine (running_sum (fun n => scr1 W c n (ix2 j e))
    (fun t : Fin cfg1.N => ∑ r : Fin 2000, nodesOut1 W c (line1 t r) j * spelled1 W c (line1 t r) e) ?_ fun t => ?_).trans ?_
  · exact zero1_apply j e
  · simp only [scr1, dif_pos t.isLt]
    rw [acc1_apply]
    simp only [nodes1_blk, bits1_blk, first1_iff]
    rfl
  · exact Fin.sum_mul_add_fin 5 2000 fun r => nodesOut1 W c r j * spelled1 W c r e

/-- The last point. -/
def end1 : Fin cfg1.N := ⟨4, by decide⟩

/-- The second result array: the sums, one row per hyperedge. -/
theorem out1_8 : (dat1 W c).arrAt 8 cfg1.N = fun i => ∑ r, nodesOut1 W c r (i 1) * spelled1 W c r (i 0) := by
  refine (dat1 W c).arrAt_eq_of_after_last 8 end1 (by decide +kernel) _ fun y => ?_
  blk_simp
  rw [after1_8]
  idx_vars y
  refine (fin1_apply _ _ _).trans ?_
  exact total1 W c _ _

end Cert.KernelIdeal.Read

end
-- ==== Proof.Pass2.lean ====
/- The arrays that the third pass leaves, over the contents it is entered at: the prediction. -/
module

public import proofs.«01_k».proof.Proof.Read1
public import proofs.«01_k».proof.Proof.Pass0
public import proofs.«01_k».proof.Proof.IdealRegion2

@[expose] public section

set_option maxRecDepth 16384

noncomputable section

namespace Cert.KernelIdeal.Read

open Idealize.ShloMosaic Idealize.SL.Sem Idealize.ShloMosaic.TcCoe Cert.KernelIdeal Cert.KernelIdeal.Gen Cert.KernelIdeal.Run

variable (W : Dev nD → Valuation τ sig (Elt Ideal)) (c : Dev nD)

/-- The row of the whole matrix that is row `r` of the block of 2000 rows at a point. -/
def line2 (t : Fin cfg2.N) (r : Fin 2000) : Fin 10000 := ⟨t * 2000 + r, by have : t.val < 5 := t.isLt; omega⟩

/-- Window 0 moves down one block of rows per point. -/
theorem index2_0 : ∀ t : Fin cfg2.N, (cfg2.win 0).index t 0 = t.val ∧ (cfg2.win 0).index t 1 = 0 := by decide +kernel
/-- Window 1 moves down one block of rows per point. -/
theorem index2_1 : ∀ t : Fin cfg2.N, (cfg2.win 1).index t 0 = t.val ∧ (cfg2.win 1).index t 1 = 0 := by decide +kernel
/-- Window 2 stays at the whole array. -/
theorem index2_2 : ∀ t : Fin cfg2.N, (cfg2.win 2).index t 0 = 0 ∧ (cfg2.win 2).index t 1 = 0 := by decide +kernel
/-- Window 3 stays at the whole array. -/
theorem index2_3 : ∀ t : Fin cfg2.N, (cfg2.win 3).index t 0 = 0 ∧ (cfg2.win 3).index t 1 = 0 := by decide +kernel
/-- Window 4 stays at the whole array. -/
theorem index2_4 : ∀ t : Fin cfg2.N, (cfg2.win 4).index t 0 = 0 ∧ (cfg2.win 4).index t 1 = 0 := by decide +kernel
/-- Window 5 stays at the whole array. -/
theorem index2_5 : ∀ t : Fin cfg2.N, (cfg2.win 5).index t 0 = 0 ∧ (cfg2.win 5).index t 1 = 0 := by decide +kernel
/-- Window 6 stays at the whole array. -/
theorem index2_6 : ∀ t : Fin cfg2.N, (cfg2.win 6).index t 0 = 0 ∧ (cfg2.win 6).index t 1 = 0 := by decide +kernel
/-- Window 7 stays at the whole array. -/
theorem index2_7 : ∀ t : Fin cfg2.N, (cfg2.win 7).index t 0 = 0 ∧ (cfg2.win 7).index t 1 = 0 := by decide +kernel
/-- Window 8 stays at the whole array. -/
theorem index2_8 : ∀ t : Fin cfg2.N, (cfg2.win 8).index t 0 = 0 ∧ (cfg2.win 8).index t 1 = 0 := by decide +kernel

/-- The block of the packed incidence words at a point. -/
theorem blk2_0 (t : Fin cfg2.N) (r : Fin 2000) (l : Fin 128) : blk2 W c 0 t (ix2 r l) = at2 W c main_v6_1 (ix2 (line2 t r) l) := by
  blk_ext [blk2, line2, index2_0 t]
/-- The block of the nodes at a point. -/
theorem blk2_1 (t : Fin cfg2.N) (r : Fin 2000) (q : Fin 128) : blk2 W c 1 t (ix2 r q) = at2 W c main_v7_0 (ix2 (line2 t r) q) := by
  blk_ext [blk2, line2, index2_1 t]
/-- The messages are staged whole. -/
theorem blk2_2 (t : Fin cfg2.N) (e : Fin 4096) (q : Fin 128) : blk2 W c 2 t (ix2 e q) = at2 W c main_v7_1 (ix2 e q) := by
  blk_ext [blk2, index2_2 t]
/-- So are the first weights, -/
theorem blk2_3 (t : Fin cfg2.N) (q : Fin 128) (j : Fin 256) : blk2 W c 3 t (ix2 q j) = at2 W c main_arg8 (ix2 q j) := by
  blk_ext [blk2, index2_3 t]
/-- the first bias, -/
theorem blk2_4 (t : Fin cfg2.N) (j : Fin 256) : blk2 W c 4 t (ix2 0 j) = at2 W c main_v3 (ix2 0 j) := by
  blk_ext [blk2, index2_4 t]
/-- the second weights, -/
theorem blk2_5 (t : Fin cfg2.N) (q : Fin 256) (j : Fin 128) : blk2 W c 5 t (ix2 q j) = at2 W c main_arg10 (ix2 q j) := by
  blk_ext [blk2, index2_5 t]
/-- and the second bias. -/
theorem blk2_6 (t : Fin cfg2.N) (j : Fin 128) : blk2 W c 6 t (ix2 0 j) = at2 W c main_v4 (ix2 0 j) := by
  blk_ext [blk2, index2_6 t]
/-- The readout weights are staged whole. -/
theorem blk2_7 (t : Fin cfg2.N) (j : Fin 128) : blk2 W c 7 t (ix2 j 0) = at2 W c main_arg12 (ix2 j 0) := by
  blk_ext [blk2, index2_7 t]
/-- So is the readout bias. -/
theorem blk2_8 (t : Fin cfg2.N)  : blk2 W c 8 t (ix2 0 0) = at2 W c main_v5 (ix2 0 0) := by
  blk_ext [blk2, index2_8 t]

/-- The incidence matrix that the packed words spell. -/
def spelled2 (r : Fin 10000) (e : Fin 4096) : EReal :=
  Packing.bit (at2 W c main_v6_1 (ix2 r ⟨e % 128, Nat.mod_lt _ (by decide)⟩)) (e / 128)

/-- The nodes after the layer. -/
def nodesOut2 (r : Fin 10000) (j : Fin 128) : EReal :=
  Network.perceptron (Network.gather (spelled2 W c) (fun r q => at2 W c main_v7_0 (ix2 r q)) (fun e q => at2 W c main_v7_1 (ix2 e q)))
    (fun q j => at2 W c main_arg8 (ix2 q j)) (fun j => at2 W c main_v3 (ix2 0 j))
    (fun q j => at2 W c main_arg10 (ix2 q j)) (fun j => at2 W c main_v4 (ix2 0 j)) r j

/-- A point's unpacked block is its rows of the matrix that the words spell. -/
theorem bits2_blk (t : Fin cfg2.N) (r : Fin 2000) (e : Fin 4096) :
    bits1 (F := Ideal) (blk2 W c 0 t) (ix2 r e) = spelled2 W c (line2 t r) e := by
  rw [bits1_apply, blk2_0]
  rfl

/-- A point's node block is its rows of the layer's nodes. -/
theorem nodes2_blk (t : Fin cfg2.N) (r : Fin 2000) (j : Fin 128) :
    nodes1 (blk2 W c 0 t) (blk2 W c 1 t) (blk2 W c 2 t) (blk2 W c 3 t) (blk2 W c 4 t) (blk2 W c 5 t) (blk2 W c 6 t) (ix2 r j) = nodesOut2 W c (line2 t r) j := by
  rw [nodes1_apply]
  unfold nodesOut2 Network.perceptron Network.affine Network.gather
  simp only [bits2_blk, blk2_1, blk2_2, blk2_3, blk2_4, blk2_5, blk2_6]

/-- The accumulator starts at zero. -/
theorem zero2_apply (j : Fin 128) : (k2_pay1 (F := Ideal)) (ix2 0 j) = 0 := by
  pointwise [k2_pay1]

/-- After the last point the accumulator holds the column sums over all the rows. -/
theorem total2 (j : Fin 128) : scr2 W c cfg2.N (ix2 0 j) = Network.columns (nodesOut2 W c) j := by
  refine (running_sum (fun n => scr2 W c n (ix2 0 j))
    (fun t : Fin cfg2.N => ∑ r : Fin 2000, nodesOut2 W c (line2 t r) j) ?_ fun t => ?_).trans ?_
  · exact zero2_apply j
  · simp only [scr2, dif_pos t.isLt]
    rw [acc2_apply]
    simp only [nodes2_blk, first2_iff]
    rfl
  · exact Fin.sum_mul_add_fin 5 2000 fun r => nodesOut2 W c r j

/-- The last point. -/
def end2 : Fin cfg2.N := ⟨4, by decide⟩

/-- The result: the readout of the column sums. -/
theorem out2_9 : (dat2 W c).arrAt 9 cfg2.N = fun _ => Network.readout (Network.columns (nodesOut2 W c))
    (fun j => at2 W c main_arg12 (ix2 j 0)) (at2 W c main_v5 (ix2 0 0)) := by
  refine (dat2 W c).arrAt_eq_of_after_last 9 end2 (by decide +kernel) _ fun y => ?_
  blk_simp
  rw [after2_9]
  idx_vars y
  obtain rfl : y0 = 0 := Subsingleton.elim _ _
  obtain rfl : y1 = 0 := Subsingleton.elim _ _
  refine (fin2_apply _ _ _).trans ?_
  simp only [blk2_7, blk2_8]
  exact congrArg (fun f => Network.readout f _ _) (funext fun j => total2 W c j)

end Cert.KernelIdeal.Read

end
-- ==== Proof.KernelValue.lean ====
/- The kernel's result: the three passes composed compute the network of Proof/Network.lean on the arguments. -/
module

public import proofs.«01_k».proof.Proof.Pass1
public import proofs.«01_k».proof.Proof.Pass2
public import proofs.«01_k».proof.Proof.IdealLaunch

@[expose] public section

set_option maxRecDepth 16384

noncomputable section

namespace Cert.KernelIdeal.Read

open Idealize.ShloMosaic Idealize.SL.Sem Idealize.ShloMosaic.TcCoe Cert.KernelIdeal Cert.KernelIdeal.Gen Cert.KernelIdeal.Run

variable (m : (ℓ : Loc nD τ sig) → Buf (Elt Ideal) ℓ) (c : Dev nD)

/-! ## The arguments -/

/-- The node features. -/
def features (r : Fin 10000) (q : Fin 128) : EReal := m (c.tc.loc main_arg0) (ix2 r q)
/-- The incidence matrix. -/
def incidence (r : Fin 10000) (e : Fin 4096) : EReal := m (c.tc.loc main_arg1) (ix2 r e)

/-- The embedded nodes. -/
def stage0 : Fin 10000 → Fin 128 → EReal :=
  Network.affine (features m c) (fun q j => m (c.tc.loc main_arg2) (ix2 q j)) (fun j => m (c.tc.loc main_arg3) (ix1 j))
/-- The nodes after the first layer. -/
def stage1 : Fin 10000 → Fin 128 → EReal :=
  Network.layer (incidence m c) (stage0 m c) (fun q j => m (c.tc.loc main_arg4) (ix2 q j)) (fun j => m (c.tc.loc main_arg5) (ix1 j))
    (fun q j => m (c.tc.loc main_arg6) (ix2 q j)) (fun j => m (c.tc.loc main_arg7) (ix1 j))
/-- The nodes after the second layer. -/
def stage2 : Fin 10000 → Fin 128 → EReal :=
  Network.layer (incidence m c) (stage1 m c) (fun q j => m (c.tc.loc main_arg8) (ix2 q j)) (fun j => m (c.tc.loc main_arg9) (ix1 j))
    (fun q j => m (c.tc.loc main_arg10) (ix2 q j)) (fun j => m (c.tc.loc main_arg11) (ix1 j))
/-- The prediction. -/
def prediction : EReal :=
  Network.readout (Network.columns (stage2 m c)) (fun j => m (c.tc.loc main_arg12) (ix2 j 0)) (m (c.tc.loc main_arg13) (ix1 0))

/-! ## The biases as rows -/

/-- The embedding's bias as a row. -/
theorem bias0 (j : Fin 128) : W0 m c (Proc.devRef .tc main_v0) (ix2 0 j) = m (c.tc.loc main_arg3) (ix1 j) := by
  unfold W0 hostOps0
  after_results
  pointwise
/-- The first layer's first bias as a row. -/
theorem bias1 (j : Fin 256) : W0 m c (Proc.devRef .tc main_v1) (ix2 0 j) = m (c.tc.loc main_arg5) (ix1 j) := by
  unfold W0 hostOps0
  after_results
  pointwise
/-- The first layer's second bias as a row. -/
theorem bias2 (j : Fin 128) : W0 m c (Proc.devRef .tc main_v2) (ix2 0 j) = m (c.tc.loc main_arg7) (ix1 j) := by
  unfold W0 hostOps0
  after_results
  pointwise
/-- The second layer's first bias as a row. -/
theorem bias3 (j : Fin 256) : W0 m c (Proc.devRef .tc main_v3) (ix2 0 j) = m (c.tc.loc main_arg9) (ix1 j) := by
  unfold W0 hostOps0
  after_results
  pointwise
/-- The second layer's second bias as a row. -/
theorem bias4 (j : Fin 128) : W0 m c (Proc.devRef .tc main_v4) (ix2 0 j) = m (c.tc.loc main_arg11) (ix1 j) := by
  unfold W0 hostOps0
  after_results
  pointwise
/-- The readout's bias as a one-entry matrix. -/
theorem bias5 : W0 m c (Proc.devRef .tc main_v5) (ix2 0 0) = m (c.tc.loc main_arg13) (ix1 0) := by
  unfold W0 hostOps0
  after_results
  pointwise

/-- A buffer that no host operation and no pass up to the second one writes. -/
theorem W1_arg (r : Ref sig .tc) (h0 : r ∉ hostOps0_W) (g0 : ∀ w, Pipeline.arrRef spec0 w = r → (cfg0.win w).isOut = false) :
    W1 m c (Proc.devRef .tc r) = m (c.tc.loc r) := (W1_of m c r g0).trans (W0_of m c r h0)
/-- A buffer that the first two passes leave as the first one found it. -/
theorem W2_keeps (r : Ref sig .tc) (g0 : ∀ w, Pipeline.arrRef spec0 w = r → (cfg0.win w).isOut = false)
    (g1 : ∀ w, Pipeline.arrRef spec1 w = r → (cfg1.win w).isOut = false) :
    W2 m c (Proc.devRef .tc r) = W0 m c (Proc.devRef .tc r) := (W2_of m c r g1).trans (W1_of m c r g0)
/-- A buffer that no host operation and none of the first two passes writes. -/
theorem W2_arg (r : Ref sig .tc) (h0 : r ∉ hostOps0_W) (g0 : ∀ w, Pipeline.arrRef spec0 w = r → (cfg0.win w).isOut = false)
    (g1 : ∀ w, Pipeline.arrRef spec1 w = r → (cfg1.win w).isOut = false) :
    W2 m c (Proc.devRef .tc r) = m (c.tc.loc r) := (W2_keeps m c r g0 g1).trans (W0_of m c r h0)

/-! ## The first pass -/

/-- The first pass embeds the features. -/
theorem nodesIn_eq (r : Fin 10000) (j : Fin 128) : nodesIn (W0 m) c r j = stage0 m c r j := by
  unfold nodesIn stage0 features Network.affine at0
  simp only [W0_of m c main_arg0 (by decide), W0_of m c main_arg2 (by decide), bias0 m c]

/-- After the first pass: the embedded nodes, … -/
theorem W1_nodes (r : Fin 10000) (j : Fin 128) : W1 m c (Proc.devRef .tc main_v6_0) (ix2 r j) = stage0 m c r j :=
  (congrFun ((W1_arr m c 4).trans (out0_4 (W0 m) c)) (ix2 r j)).trans (nodesIn_eq m c r j)
/-- … the incidence matrix packed in words, … -/
theorem W1_words (r : Fin 10000) (l : Fin 128) :
    W1 m c (Proc.devRef .tc main_v6_1) (ix2 r l) = Packing.word fun k => incidence m c r (col k l) := by
  refine (congrFun ((W1_arr m c 5).trans (out0_5 (W0 m) c)) (ix2 r l)).trans ?_
  unfold incidence at0
  rw [W0_of m c main_arg1 (by decide)]
  rfl
/-- … and the first layer's messages. -/
theorem W1_messages (e : Fin 4096) (j : Fin 128) :
    W1 m c (Proc.devRef .tc main_v6_2) (ix2 e j) = Network.edges (incidence m c) (stage0 m c) e j := by
  refine (congrFun ((W1_arr m c 6).trans (out0_6 (W0 m) c)) (ix2 e j)).trans ?_
  show (∑ r, nodesIn (W0 m) c r j * at0 (W0 m) c main_arg1 (ix2 r e) : EReal) = ∑ r, incidence m c r e * stage0 m c r j
  refine Finset.sum_congr rfl fun r _ => (mul_comm _ _).trans (congrArg₂ (fun a b : EReal => a * b) ?_ (nodesIn_eq m c r j))
  exact congrFun (W0_of m c main_arg1 (by decide)) (ix2 r e)

/-! ## The second pass -/

section
variable (hB : ∀ r e, incidence m c r e = 0 ∨ incidence m c r e = 1)
include hB

/-- The words of a matrix of zeros and ones spell it. -/
theorem bit_words (r : Fin 10000) (e : Fin 4096) :
    Packing.bit (Packing.word fun k => incidence m c r (col k ⟨e % 128, Nat.mod_lt _ (by decide)⟩)) (e / 128) = incidence m c r e := by
  have he : e.val / 128 < 32 := by omega
  rw [Packing.bit_word _ (fun k _ => hB r _) _ he]
  congr 1
  rw [col_eq _ he]
  exact Fin.ext (Nat.div_add_mod e.val 128)

/-- The second pass reads the incidence matrix back. -/
theorem spelled1_eq (r : Fin 10000) (e : Fin 4096) : spelled1 (W1 m) c r e = incidence m c r e :=
  (congrArg (Packing.bit · (e / 128)) (W1_words m c r _)).trans (bit_words m c hB r e)

/-- The second pass computes the first layer. -/
theorem nodesOut1_eq (r : Fin 10000) (j : Fin 128) : nodesOut1 (W1 m) c r j = stage1 m c r j := by
  unfold nodesOut1 stage1 Network.layer Network.perceptron Network.affine Network.gather at1
  simp only [spelled1_eq m c hB, W1_nodes m c, W1_messages m c, W1_of m c main_v1 (by decide), W1_of m c main_v2 (by decide), bias1 m c, bias2 m c,
    W1_arg m c main_arg4 (by decide) (by decide), W1_arg m c main_arg6 (by decide) (by decide)]

/-- After the second pass: the nodes of the first layer, … -/
theorem W2_nodes (r : Fin 10000) (j : Fin 128) : W2 m c (Proc.devRef .tc main_v7_0) (ix2 r j) = stage1 m c r j :=
  (congrFun ((W2_arr m c 7).trans (out1_7 (W1 m) c)) (ix2 r j)).trans (nodesOut1_eq m c hB r j)
/-- … the second layer's messages … -/
theorem W2_messages (e : Fin 4096) (j : Fin 128) :
    W2 m c (Proc.devRef .tc main_v7_1) (ix2 e j) = Network.edges (incidence m c) (stage1 m c) e j := by
  refine (congrFun ((W2_arr m c 8).trans (out1_8 (W1 m) c)) (ix2 e j)).trans ?_
  show (∑ r, nodesOut1 (W1 m) c r j * spelled1 (W1 m) c r e : EReal) = ∑ r, incidence m c r e * stage1 m c r j
  exact Finset.sum_congr rfl fun r _ =>
    (mul_comm _ _).trans (congrArg₂ (fun a b : EReal => a * b) (spelled1_eq m c hB r e) (nodesOut1_eq m c hB r j))

/-! ## The third pass -/

/-- … and the words are still those of the first pass. -/
theorem spelled2_eq (r : Fin 10000) (e : Fin 4096) : spelled2 (W2 m) c r e = incidence m c r e := by
  refine Eq.trans ?_ (spelled1_eq m c hB r e)
  unfold spelled2 spelled1 at2 at1
  rw [W2_of m c main_v6_1 (by decide)]

/-- The third pass computes the second layer. -/
theorem nodesOut2_eq (r : Fin 10000) (j : Fin 128) : nodesOut2 (W2 m) c r j = stage2 m c r j := by
  unfold nodesOut2 stage2 Network.layer Network.perceptron Network.affine Network.gather at2
  simp only [spelled2_eq m c hB, W2_nodes m c hB, W2_messages m c hB, W2_keeps m c main_v3 (by decide) (by decide),
    W2_keeps m c main_v4 (by decide) (by decide), bias3 m c, bias4 m c,
    W2_arg m c main_arg8 (by decide) (by decide) (by decide), W2_arg m c main_arg10 (by decide) (by decide) (by decide)]

/-- After the third pass: the prediction, as a one-entry matrix. -/
theorem W3_prediction : W3 m c (Proc.devRef .tc main_v8) (ix2 0 0) = prediction m c := by
  refine (congrFun ((W3_arr m c 9).trans (out2_9 (W2 m) c)) (ix2 0 0)).trans ?_
  unfold prediction
  rw [show nodesOut2 (W2 m) c = stage2 m c from funext fun r => funext fun j => nodesOut2_eq m c hB r j]
  unfold at2
  simp only [W2_keeps m c main_v5 (by decide) (by decide), bias5 m c, W2_arg m c main_arg12 (by decide) (by decide) (by decide)]

/-- At the end the result holds the prediction. -/
theorem W4_prediction (i : Fin 1) : W4 m c (Proc.devRef .tc main_v9) (ix1 i) = prediction m c := by
  refine Eq.trans ?_ (W3_prediction m c hB)
  unfold W4 hostOps3
  after_results
  pointwise

end

end Cert.KernelIdeal.Read

end
-- ==== Proof.Precondition.lean ====
/- The precondition read entry by entry: every entry of the incidence matrix is 0 or 1. -/
module

public import proofs.«01_k».proof.Pre_binary
public import Idealize.ShloMosaic.Lib.Pointwise

@[expose] public section

set_option maxRecDepth 16384

noncomputable section

namespace Cert.Pre_binary.Read

open Idealize.ShloMosaic Cert.Pre_binary

/-- The predicate's one stated side condition. -/
theorem facts : Cert.Pre_binary.Facts where
  bcast_S_S10000x4096 := by decide

/-- Where the predicate holds of every entry, each entry of the incidence matrix is 0 or 1. -/
theorem zero_or_one [Cert.Pre_binary.Facts] (a0 : FVec Ideal S10000x128 .f32) (a1 : FVec Ideal S10000x4096 .f32) (a2 : FVec Ideal S128x128 .f32)
    (a3 : FVec Ideal S128 .f32) (a4 : FVec Ideal S128x256 .f32) (a5 : FVec Ideal S256 .f32) (a6 : FVec Ideal S256x128 .f32) (a7 : FVec Ideal S128 .f32)
    (a8 : FVec Ideal S128x256 .f32) (a9 : FVec Ideal S256 .f32) (a10 : FVec Ideal S256x128 .f32) (a11 : FVec Ideal S128 .f32)
    (a12 : FVec Ideal S128x1 .f32) (a13 : FVec Ideal S1 .f32)
    (h : fn (F := Ideal) a0 a1 a2 a3 a4 a5 a6 a7 a8 a9 a10 a11 a12 a13 = fun _ => 1#1) (r : Fin 10000) (e : Fin 4096) :
    a1 (ix2 r e) = 0 ∨ a1 (ix2 r e) = 1 := by
  have h' := congrFun h (ix2 r e)
  revert h'
  pointwise [fn]
  intro h'
  by_contra hn
  rw [not_or] at hn
  rw [decide_eq_false hn.1, decide_eq_false hn.2] at h'
  exact absurd h' (by decide)

end Cert.Pre_binary.Read

end
-- ==== Proof.Claims.lean ====
/- The claims: each of the three programs leaves its arguments alone and every semaphore at zero, the one constant that the
   idealized kernel names is the quotient it stands for, and on incidence matrices of zeros and ones the idealized kernel
   computes the reference's prediction. -/
module

public import proofs.«01_k».proof.Defs
public import proofs.«01_k».proof.Proof.BitsLaunch
public import proofs.«01_k».proof.Proof.IdealLaunch
public import proofs.«01_k».proof.Proof.Gen.ReferenceIdeal.Run
public import proofs.«01_k».proof.Proof.ReferenceValue
public import proofs.«01_k».proof.Proof.KernelValue
public import proofs.«01_k».proof.Proof.Precondition
public import Idealize.ShloMosaic.Lib.Quiescent

@[expose] public section

noncomputable section

namespace Cert.Proof

open Idealize.ShloMosaic Idealize.SL.Sem

/-- The kernel as printed terminates, its arguments unchanged and its counters at zero. -/
theorem frame_kernel : Cert.quiescent_Kernel := fun m g _ => Cert.Kernel.Run.frame_run m g

/-- So does the kernel over the extended reals. -/
theorem frame_ideal : Cert.quiescent_KernelIdeal := fun m g _ => Cert.KernelIdeal.Run.frame_run m g

/-- The reference terminates: its operations write none of its arguments, and it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel's frame again, where the precondition is assumed. -/
theorem frame_ideal_binary [Cert.Pre_binary.Facts] : Cert.quiescent_KernelIdeal_pre_binary := fun m g _ => frame_ideal m g trivial

/-- The reference's frame again, where the precondition is assumed. -/
theorem frame_reference_binary [Cert.Pre_binary.Facts] : Cert.quiescent_ReferenceIdeal_pre_binary := fun m g _ => frame_reference m g trivial

/-- The name `inv_n` stands for the quotient 1/10000. -/
theorem preserves : Cert.preserves_Kernel_KernelIdeal :=
  IdealRules.named_const.statement Cert.KernelIdeal.κ "inv_n" .f32 0x38D1B717#32 ((1 / 10000 : ℝ) : EReal) rfl

/-- The reference's result, on arguments that agree with the kernel's, is the network's prediction. -/
theorem reference_prediction (m : (ℓ : Loc Cert.KernelIdeal.nD Cert.KernelIdeal.τ Cert.KernelIdeal.sig) → Buf (Elt Ideal) ℓ)
    (c : Dev Cert.KernelIdeal.nD) (i : Fin 1) :
    Cert.ReferenceIdeal.Read.pool
      (Cert.ReferenceIdeal.Read.step (m (c.tc.loc Cert.KernelIdeal.main_arg1))
        (Cert.ReferenceIdeal.Read.step (m (c.tc.loc Cert.KernelIdeal.main_arg1))
          (Cert.ReferenceIdeal.Read.embed (m (c.tc.loc Cert.KernelIdeal.main_arg0)) (m (c.tc.loc Cert.KernelIdeal.main_arg2)) (m (c.tc.loc Cert.KernelIdeal.main_arg3)))
          (m (c.tc.loc Cert.KernelIdeal.main_arg4)) (m (c.tc.loc Cert.KernelIdeal.main_arg5)) (m (c.tc.loc Cert.KernelIdeal.main_arg6)) (m (c.tc.loc Cert.KernelIdeal.main_arg7)))
        (m (c.tc.loc Cert.KernelIdeal.main_arg8)) (m (c.tc.loc Cert.KernelIdeal.main_arg9)) (m (c.tc.loc Cert.KernelIdeal.main_arg10)) (m (c.tc.loc Cert.KernelIdeal.main_arg11)))
      (m (c.tc.loc Cert.KernelIdeal.main_arg12)) (m (c.tc.loc Cert.KernelIdeal.main_arg13)) (ix1 i)
      = Cert.KernelIdeal.Read.prediction m c := by
  rw [Cert.ReferenceIdeal.Read.pool_apply]
  simp only [Cert.ReferenceIdeal.Read.step_apply, Cert.ReferenceIdeal.Read.embed_apply]
  rfl

/-- On incidence matrices of zeros and ones the idealized kernel and the reference end with the same prediction. -/
theorem algebraic [Cert.Pre_binary.Facts] : Cert.algebraic_KernelIdeal_ReferenceIdeal_pre_binary := by
  intro m g m' g' hpre hagree
  refine ⟨fun c => fun _ => Cert.KernelIdeal.Read.prediction m c, ?_, ?_⟩
  · refine (θ_run Cert.KernelIdeal.defs _ _).mono (fun r h c => ⟨?_, Cert.KernelIdeal.Run.args_kept m c (h.1 c)⟩) (Cert.KernelIdeal.Run.run_all m g)
    refine (Cert.KernelIdeal.Run.read_end m c Cert.KernelIdeal.main_v9 rfl (h.1 c)).trans (funext fun i => ?_)
    rw [show i = ix1 (i 0) from eq_ix1 i]
    exact Cert.KernelIdeal.Read.W4_prediction m c (Cert.Pre_binary.Read.zero_or_one _ _ _ _ _ _ _ _ _ _ _ _ _ _ (hpre c)) (i 0)
  · refine (θ_run Cert.ReferenceIdeal.defs _ _).mono (fun r h c => ⟨(h c).1.trans (funext fun i => ?_), (h c).2⟩)
      (Cert.ReferenceIdeal.Value.run (F := Ideal) m' g')
    obtain ⟨e0, e1, e2, e3, e4, e5, e6, e7, e8, e9, e10, e11, e12, e13⟩ := hagree c
    rw [Cert.ReferenceIdeal.Read.res_eq, e0, e1, e2, e3, e4, e5, e6, e7, e8, e9, e10, e11, e12, e13, show i = ix1 (i 0) from eq_ix1 i]
    exact reference_prediction m c (i 0)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_binary.Read.facts,
    frame_kernel, frame_ideal, @frame_ideal_binary Cert.Pre_binary.Read.facts, frame_reference,
    @frame_reference_binary Cert.Pre_binary.Read.facts, preserves, @algebraic Cert.Pre_binary.Read.facts⟩

end Cert.Proof

end
